-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S4x1x1024 : Shape := ⟨3, ![4, 1, 1024]⟩
abbrev S_ : Shape := ⟨0, ![]⟩
abbrev S4 : Shape := ⟨1, ![4]⟩
abbrev S4095x1024 : Shape := ⟨2, ![4095, 1024]⟩
abbrev S2x1024 : Shape := ⟨2, ![2, 1024]⟩
abbrev S4094x1024 : Shape := ⟨2, ![4094, 1024]⟩
abbrev S4x1024 : Shape := ⟨2, ![4, 1024]⟩
abbrev S4092x1024 : Shape := ⟨2, ![4092, 1024]⟩
abbrev S8x1024 : Shape := ⟨2, ![8, 1024]⟩
abbrev S4088x1024 : Shape := ⟨2, ![4088, 1024]⟩
abbrev S16x1024 : Shape := ⟨2, ![16, 1024]⟩
abbrev S4080x1024 : Shape := ⟨2, ![4080, 1024]⟩
abbrev S32x1024 : Shape := ⟨2, ![32, 1024]⟩
abbrev S4064x1024 : Shape := ⟨2, ![4064, 1024]⟩
abbrev S64x1024 : Shape := ⟨2, ![64, 1024]⟩
abbrev S4032x1024 : Shape := ⟨2, ![4032, 1024]⟩
abbrev S128x1024 : Shape := ⟨2, ![128, 1024]⟩
abbrev S3968x1024 : Shape := ⟨2, ![3968, 1024]⟩
abbrev S256x1024 : Shape := ⟨2, ![256, 1024]⟩
abbrev S3840x1024 : Shape := ⟨2, ![3840, 1024]⟩
abbrev S512x1024 : Shape := ⟨2, ![512, 1024]⟩
abbrev S3584x1024 : Shape := ⟨2, ![3584, 1024]⟩
abbrev S1024x1024 : Shape := ⟨2, ![1024, 1024]⟩
abbrev S3072x1024 : Shape := ⟨2, ![3072, 1024]⟩
abbrev S1024 : Shape := ⟨1, ![1024]⟩
abbrev S1 : Shape := ⟨1, ![1]⟩
abbrev S1x1x1024 : Shape := ⟨3, ![1, 1, 1024]⟩
abbrev S2048x1024 : Shape := ⟨2, ![2048, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S1x1024, .f32⟩
  | .local _ .vmem, ⟨3, _⟩ => ⟨S4x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_159 : BitVec 32 := 0#32
  let c0_i32_157 : BitVec 32 := 0#32
  let c1_i32_158 : BitVec 32 := 1#32
  let v191 : BitVec 32 := Scalar.muli c0_i32_157 c1_i32_158
  let v192 : BitVec 32 := Scalar.addi c0_i32_159 v191
  v192.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_159 : BitVec 32 := 0#32
  let c1_i32_157 : BitVec 32 := 1#32
  let c1_i32_158 : BitVec 32 := 1#32
  let v191 : BitVec 32 := Scalar.muli c1_i32_157 c1_i32_158
  let v192 : BitVec 32 := Scalar.addi c0_i32_159 v191
  v192.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_159 : BitVec 32 := 0#32
  let c2_i32_157 : BitVec 32 := 2#32
  let c1_i32_158 : BitVec 32 := 1#32
  let v191 : BitVec 32 := Scalar.muli c2_i32_157 c1_i32_158
  let v192 : BitVec 32 := Scalar.addi c0_i32_159 v191
  v192.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_159 : BitVec 32 := 0#32
  let c3_i32_157 : BitVec 32 := 3#32
  let c1_i32_158 : BitVec 32 := 1#32
  let v191 : BitVec 32 := Scalar.muli c3_i32_157 c1_i32_158
  let v192 : BitVec 32 := Scalar.addi c0_i32_159 v191
  v192.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_108 : BitVec 32 := 0#32
  let v131 : BitVec 1 := Scalar.cmpi .ne v2 c0_i32_108
  let v132 : BitVec 32 := Scalar.extui v131
  let c0_i32_109 : BitVec 32 := 0#32
  let v133 : BitVec 1 := Scalar.cmpi .ne v132 c0_i32_109
  v133

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_160 : BitVec 32 := 0#32
  let c0_i32_161 : BitVec 32 := 0#32
  ![v2.toNat, 0, 0]
def k0_dev5 : Nat :=
  let c0_i32_159 : BitVec 32 := 0#32
  let c0_i32_157 : BitVec 32 := 0#32
  let c1_i32_158 : BitVec 32 := 1#32
  let v191 : BitVec 32 := Scalar.muli c0_i32_157 c1_i32_158
  let v192 : BitVec 32 := Scalar.addi c0_i32_159 v191
  v192.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_110 : BitVec 32 := 1#32
  let v134 : BitVec 1 := Scalar.cmpi .ne v2 c1_i32_110
  let v135 : BitVec 32 := Scalar.extui v134
  let c0_i32_111 : BitVec 32 := 0#32
  let v136 : BitVec 1 := Scalar.cmpi .ne v135 c0_i32_111
  v136

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_160 : BitVec 32 := 0#32
  let c0_i32_161 : BitVec 32 := 0#32
  ![v2.toNat, 0, 0]
def k0_dev6 : Nat :=
  let c0_i32_159 : BitVec 32 := 0#32
  let c1_i32_157 : BitVec 32 := 1#32
  let c1_i32_158 : BitVec 32 := 1#32
  let v191 : BitVec 32 := Scalar.muli c1_i32_157 c1_i32_158
  let v192 : BitVec 32 := Scalar.addi c0_i32_159 v191
  v192.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_112 : BitVec 32 := 2#32
  let v137 : BitVec 1 := Scalar.cmpi .ne v2 c2_i32_112
  let v138 : BitVec 32 := Scalar.extui v137
  let c0_i32_113 : BitVec 32 := 0#32
  let v139 : BitVec 1 := Scalar.cmpi .ne v138 c0_i32_113
  v139

def k0_off5 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_160 : BitVec 32 := 0#32
  let c0_i32_161 : BitVec 32 := 0#32
  ![v2.toNat, 0, 0]
def k0_dev7 : Nat :=
  let c0_i32_159 : BitVec 32 := 0#32
  let c2_i32_157 : BitVec 32 := 2#32
  let c1_i32_158 : BitVec 32 := 1#32
  let v191 : BitVec 32 := Scalar.muli c2_i32_157 c1_i32_158
  let v192 : BitVec 32 := Scalar.addi c0_i32_159 v191
  v192.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_114 : BitVec 32 := 3#32
  let v140 : BitVec 1 := Scalar.cmpi .ne v2 c3_i32_114
  let v141 : BitVec 32 := Scalar.extui v140
  let c0_i32_115 : BitVec 32 := 0#32
  let v142 : BitVec 1 := Scalar.cmpi .ne v141 c0_i32_115
  v142

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_160 : BitVec 32 := 0#32
  let c0_i32_161 : BitVec 32 := 0#32
  ![v2.toNat, 0, 0]
def k0_dev8 : Nat :=
  let c0_i32_159 : BitVec 32 := 0#32
  let c3_i32_157 : BitVec 32 := 3#32
  let c1_i32_158 : BitVec 32 := 1#32
  let v191 : BitVec 32 := Scalar.muli c3_i32_157 c1_i32_158
  let v192 : BitVec 32 := Scalar.addi c0_i32_159 v191
  v192.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S16384x1024, .f32⟩
  | .hbm, ⟨5, _⟩ => ⟨S_, .i32⟩
  | .hbm, ⟨6, _⟩ => ⟨S16384x1024, .f32⟩
  | .hbm, ⟨7, _⟩ => ⟨S_, .i32⟩
  | .hbm, ⟨8, _⟩ => ⟨S1024, .f32⟩
  | .hbm, ⟨9, _⟩ => ⟨S16384x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S16384x1024, .f32⟩
  | .hbm, ⟨19, _⟩ => ⟨S_, .i32⟩
  | .hbm, ⟨20, _⟩ => ⟨S_, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 16384#32, 1#32⟩
-- ==== Proof.Scan.lean ====
/-
One doubling step of the running product.

The kernel keeps its block of `x` in two buffers and rewrites one from the other twelve times. A step at
distance `s` copies the first `s` rows of the source and stores, on every later row, the product of the
source's row with its row `s` above. This module states that step as a function of the contents and proves,
once for every distance, that the seven memory operations of a step carry it out.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The step as a function of the contents -/

/-- The index `s` rows above `i`. -/
def above (s : ℕ) (i : S4096x1024.Idx) : S4096x1024.Idx :=
  fun a => ⟨(i a).val - (![s, 0] : Fin 2 → ℕ) a, Nat.lt_of_le_of_lt (Nat.sub_le _ _) (i a).isLt⟩

/-- The step at distance `s`: rows before row `s` stay, a later row is multiplied by the row `s` above it. -/
def scanStep (s : ℕ) (X : Vec F S4096x1024 .f32) : Vec F S4096x1024 .f32 :=
  fun i => if (i 0).val < s then X i else FloatOps.mulf (φ := .f32) (X i) (X (above s i))

/-! ## Loads and stores through a memref held at known contents -/

section Ops

variable {Ix : Type} [DecidableEq Ix] {Name : Type} [DecidableEq Name] {U : Type} [URA U] {Lvl : Type} [Preorder Lvl]

local notation "𝕄" => MT nD τ sig Ix (Elt F) Name U Lvl

variable {Λ : Labels} {defs : Defs nD τ sig (Elt F) Λ} (𝒱 : Variants) {α : Type} {s : Shape} {e : EltTy}

/-- A load through a memref held at contents `X` reads `X` at the rectangle's coordinates. -/
theorem wp_load_at (c : Dev nD) {m : Memref sig .tc .vmem s e} {r : LoadRect s} {hl : m.view.LoadsAt r}
    {k : (r.shape.Idx → Elt F e) → Prog (TpuEff nD τ sig (Elt F) Λ .tc) α} {q : PosShare TreeShare} {X : s.Idx → Elt F e} {Q : α → sProp 𝕄} :
    (owns (c : Thread nD τ) m q X : sProp 𝕄)
      ⊢ iprop((owns (c : Thread nD τ) m q X -∗ wp frame (wpE defs 𝒱 (c : Thread nD τ) none) Set.univ (k fun x => X (r.idx x)) Q)
          -∗ wp frame (wpE defs 𝒱 (c : Thread nD τ) none) Set.univ (.op (.load m r hl) k) Q) := by
  unfold owns
  iintro ⟨%f, %hf, H⟩ Hk
  iapply (wp_load 𝒱 (c : Thread nD τ) none Set.univ (m := m) (m.view.setOn_subset_set _)) $$ H
  iintro H
  rw [show m.view.readAt (Elt F) r f = fun x => X (r.idx x) from funext fun x => by rw [View.readAt_apply, hf]]
  iapply Hk
  iexists f
  isplitr; · ipureintro; exact hf
  iexact H

/-- What a memref reads after a store through the rectangle at `off` of sizes `size`: the payload inside, what it read before outside. -/
theorem read_stored (m : Memref sig .tc .vmem s e) {off size : Fin s.rank → ℕ} (inb : ∀ a, off a + size a ≤ s.size a)
    (f : m.view.ty.Contents (Elt F)) (w : (Rect.unit off size inb).shape.Idx → Elt F e) (i : s.Idx) :
    m.view.read (Elt F) ((m.access (Rect.unit off size inb)).write (Elt F) f w Finset.univ) i
      = if hin : ∀ a, off a ≤ (i a).val ∧ (i a).val < off a + size a then w (fun a => ⟨(i a).val - off a, by have := hin a; show _ < size a; omega⟩)
        else m.view.read (Elt F) f i := by
  split
  · next hin =>
    have hx : (Rect.unit off size inb).emb (fun a => (⟨(i a).val - off a, by have := hin a; omega⟩ : Fin (size a))) = i := by
      funext a; apply Fin.ext
      rw [Rect.emb_apply]
      have := hin a
      show off a + 1 * ((i a).val - off a) = (i a).val
      omega
    conv_lhs => rw [← hx]
    exact View.read_slice_write_emb (v := m.view) _ f w (Finset.mem_univ _)
  · next hout =>
    refine View.read_slice_write_of_not_mem (v := m.view) _ f w _ fun hmem => hout ?_
    obtain ⟨x, -, rfl⟩ := Finset.mem_map.mp hmem
    intro a
    rw [Rect.emb_apply]
    have h : (x a).val < size a := (x a).isLt
    refine ⟨?_, ?_⟩
    · show off a ≤ off a + 1 * (x a).val
      omega
    · show off a + 1 * (x a).val < off a + size a
      omega

/-- A store through a rectangle of a memref held at contents `X` leaves it at contents reading as the payload inside the rectangle, as `X` outside. -/
theorem wp_store_at (c : Dev nD) {m : Memref sig .tc .vmem s e} {off size : Fin s.rank → ℕ} {inb : ∀ a, off a + size a ≤ s.size a}
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ .tc) α} {X : s.Idx → Elt F e} {Q : α → sProp 𝕄} (Y : s.Idx → Elt F e)
    (hY : ∀ i, Y i = if hin : ∀ a, off a ≤ (i a).val ∧ (i a).val < off a + size a then w (fun a => ⟨(i a).val - off a, by have := hin a; show _ < size a; omega⟩) else X i) :
    (owns (c : Thread nD τ) m fullShare X : sProp 𝕄)
      ⊢ iprop((owns (c : Thread nD τ) m fullShare Y -∗ wp frame (wpE defs 𝒱 (c : Thread nD τ) none) Set.univ (k ⟨⟩) Q)
          -∗ wp frame (wpE defs 𝒱 (c : Thread nD τ) none) Set.univ (.op (.store m (Rect.unit off size inb) w Finset.univ hx hm) k) Q) := by
  unfold owns
  iintro ⟨%f, %hf, H⟩ Hk
  iapply (wp_store 𝒱 (c : Thread nD τ) none Set.univ (m := m) (r := Rect.unit off size inb) (Mk := Finset.univ)
    (by rw [View.setOn_univ]; exact View.set_slice_subset _ _)) $$ H
  iintro H
  iapply Hk
  iexists ((m.access (Rect.unit off size inb)).write (Elt F) f w Finset.univ)
  isplitr
  · ipureintro
    funext i
    rw [read_stored, hY i]
    subst hf
    rfl
  iexact H

/-! ## The step's seven operations -/

/-- The seven operations of a step at distance `s` (with `h` rows from row `s` on): copy the first `s` rows, store the products on
    the other `h`. The two loads of the destination are read by nothing. -/
theorem wp_scan (c : Dev nD) (s h : ℕ) (hsh : s + h = 4096) {src dst : Memref sig .tc .vmem S4096x1024 .f32}
    {iA : ∀ a, (![0, 0] : Fin 2 → ℕ) a + (![s, 1024] : Fin 2 → ℕ) a ≤ S4096x1024.size a}
    {iB : ∀ a, (![s, 0] : Fin 2 → ℕ) a + (![h, 1024] : Fin 2 → ℕ) a ≤ S4096x1024.size a}
    {iC : ∀ a, (![0, 0] : Fin 2 → ℕ) a + (![h, 1024] : Fin 2 → ℕ) a ≤ S4096x1024.size a}
    {l1 l2 l3 l4 l5 x1 m1 x2 m2}
    {pA : ((⟨2, ![s, 1024]⟩ : Shape).Idx → Elt F .f32) → (⟨2, ![s, 1024]⟩ : Shape).Idx → Elt F .f32}
    {pB : ((⟨2, ![h, 1024]⟩ : Shape).Idx → Elt F .f32) → ((⟨2, ![h, 1024]⟩ : Shape).Idx → Elt F .f32) → (⟨2, ![h, 1024]⟩ : Shape).Idx → Elt F .f32}
    (hA : ∀ v, pA v = v) (hB : ∀ u v, pB u v = mulf (F := F) (φ := .f32) u v)
    {k : PUnit → Prog (TpuEff nD τ sig (Elt F) Λ .tc) α} {X Y : Vec F S4096x1024 .f32} {Q : α → sProp 𝕄} :
    iprop(owns (c : Thread nD τ) src fullShare X ∗ owns (c : Thread nD τ) dst fullShare Y : sProp 𝕄)
      ⊢ iprop(((owns (c : Thread nD τ) src fullShare X ∗ owns (c : Thread nD τ) dst fullShare (scanStep s X))
            -∗ wp frame (wpE defs 𝒱 (c : Thread nD τ) none) Set.univ (k ⟨⟩) Q)
          -∗ wp frame (wpE defs 𝒱 (c : Thread nD τ) none) Set.univ
              (.op (.load src (Rect.unit (s := S4096x1024) ![0, 0] ![s, 1024] iA).toLoadRect l1) fun v =>
               .op (.load dst (Rect.unit (s := S4096x1024) ![0, 0] ![s, 1024] iA).toLoadRect l2) fun _ =>
               .op (.store dst (Rect.unit (s := S4096x1024) ![0, 0] ![s, 1024] iA) (pA v) Finset.univ x1 m1) fun _ =>
               .op (.load src (Rect.unit (s := S4096x1024) ![s, 0] ![h, 1024] iB).toLoadRect l3) fun u =>
               .op (.load src (Rect.unit (s := S4096x1024) ![0, 0] ![h, 1024] iC).toLoadRect l4) fun w =>
               .op (.load dst (Rect.unit (s := S4096x1024) ![s, 0] ![h, 1024] iB).toLoadRect l5) fun _ =>
               .op (.store dst (Rect.unit (s := S4096x1024) ![s, 0] ![h, 1024] iB) (pB u w) Finset.univ x2 m2) k) Q) := by
  iintro ⟨Hs, Hd⟩ Hk
  iapply (wp_load_at 𝒱 c (m := src)) $$ Hs; iintro Hs
  iapply (wp_load_at 𝒱 c (m := dst)) $$ Hd; iintro Hd
  iapply (wp_store_at 𝒱 c (m := dst) (fun i : S4096x1024.Idx => if (i 0).val < s then X i else Y i) ?hst1) $$ Hd
  case hst1 =>
    intro i
    have h1 : (i 1).val < 1024 := (i 1).isLt
    by_cases hi : (i 0).val < s
    · rw [if_pos hi, dif_pos (Fin.forall_fin_two.mpr ⟨⟨Nat.zero_le _, by show _ < 0 + s; omega⟩, ⟨Nat.zero_le _, by show _ < 0 + 1024; omega⟩⟩), hA]
      refine congrArg X (funext fun a => Fin.ext ?_)
      revert a; refine Fin.forall_fin_two.mpr ⟨?_, ?_⟩
      · show (i 0).val = 0 + 1 * ((i 0).val - 0)
        omega
      · show (i 1).val = 0 + 1 * ((i 1).val - 0)
        omega
    · rw [if_neg hi, dif_neg fun hin => hi (by have := (hin 0).2; change _ < 0 + s at this; omega)]
  iintro Hd
  iapply (wp_load_at 𝒱 c (m := src)) $$ Hs; iintro Hs
  iapply (wp_load_at 𝒱 c (m := src)) $$ Hs; iintro Hs
  iapply (wp_load_at 𝒱 c (m := dst)) $$ Hd; iintro Hd
  iapply (wp_store_at 𝒱 c (m := dst) (scanStep s X) ?hst2) $$ Hd
  case hst2 =>
    intro i
    have h0 : (i 0).val < 4096 := (i 0).isLt
    have h1 : (i 1).val < 1024 := (i 1).isLt
    unfold scanStep
    by_cases hi : (i 0).val < s
    · rw [if_pos hi, dif_neg fun hin => absurd (hin 0).1 (by show ¬ s ≤ _; omega), if_pos hi]
    · rw [if_neg hi, dif_pos (Fin.forall_fin_two.mpr ⟨⟨by show s ≤ _; omega, by show _ < s + h; omega⟩, ⟨Nat.zero_le _, by show _ < 0 + 1024; omega⟩⟩), hB]
      refine congrArg₂ (FloatOps.mulf (φ := .f32)) (congrArg X (funext fun a => Fin.ext ?_)) (congrArg X (funext fun a => Fin.ext ?_))
      · revert a; refine Fin.forall_fin_two.mpr ⟨?_, ?_⟩
        · show (i 0).val = s + 1 * ((i 0).val - s)
          omega
        · show (i 1).val = 0 + 1 * ((i 1).val - 0)
          omega
      · revert a; refine Fin.forall_fin_two.mpr ⟨?_, ?_⟩
        · show (i 0).val - s = 0 + 1 * ((i 0).val - s)
          omega
        · show (i 1).val - 0 = 0 + 1 * ((i 1).val - 0)
          omega
  iintro Hd
  iapply Hk
  isplitl [Hs] <;> iassumption

end Ops

end Cert.RowProduct

end
-- ==== Proof.Protocol.lean ====
/-
The protocol of the four devices, written down once.

Every device has ten semaphore cells: the barrier, the copy's, and one send and one receive cell for each device
`j`. A cell is used for one round:

* barrier of `c`: each OTHER device `d` signals one unit and hands `c` the slot of `d`'s receive buffer that `c`
  will write; `c` waits for the three units;
* copy of `c`: the local copy of `c`'s block into the first buffer; its landing hands that buffer at the block;
* receive cell `j` of `c` (`j ≠ c`): device `j`'s transfer; its landing hands slot `j` at `j`'s column totals;
* send cell `j` of `c` (`j ≠ c`): the source side of `c`'s transfer to `j`; it hands back the share of the totals
  buffer that the transfer read.

The cells `send c` and `receive c` of device `c` itself are never used. At launch a device owes one unit to every
other device's barrier and one transfer to every other device's receive cell.
-/
module

public import proofs.«01_k».proof.Proof.Scan
public import Idealize.ShloMosaic.Lib.ShareLeaves

@[expose] public section

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The memrefs -/

/-- The block of `x` in main memory, the two buffers, the totals buffer and the receive buffer. -/
abbrev xM : Memref sig .tc .hbm S4096x1024 .f32 := Memref.whole main_arg0
abbrev oM : Memref sig .tc .vmem S4096x1024 .f32 := Memref.whole cc0_stg0_0
abbrev pM : Memref sig .tc .vmem S4096x1024 .f32 := Memref.whole cc0_scratch0
abbrev cM : Memref sig .tc .vmem S1x1024 .f32 := Memref.whole cc0_scratch1
abbrev rM : Memref sig .tc .vmem S4x1x1024 .f32 := Memref.whole cc0_scratch2

theorem slot_inb (j : Dev nD) : ∀ a, (![j.val, 0, 0] : Fin 3 → ℕ) a + S1x1x1024.size a ≤ S4x1x1024.size a := by
  revert j; decide
theorem cell_inb (j : Dev nD) : ∀ a, (![j.val] : Fin 1 → ℕ) a + S1.size a ≤ S4.size a := by
  revert j; decide

/-- Row `j` of the receive buffer. -/
abbrev slot (j : Dev nD) : Memref sig .tc .vmem S1x1024 .f32 :=
  (rM.slice (Rect.unit (s := S4x1x1024) ![j.val, 0, 0] S1x1x1024.size (slot_inb j)) (fun _ => rfl)).squeeze S1x1024 squeezes_S1x1x1024_S1x1024

/-! ## The cells -/

abbrev barS : Sem sig := (SemArray.scalar (sig.barrier 0 rfl) : Sems sig S_).sem
abbrev copyS : DmaSem sig := cc0_scratch3.sem
abbrev sendS (j : Dev nD) : DmaSem sig :=
  ((cc0_scratch4.slice (Rect.unit (s := S4) ![j.val] S1.size (cell_inb j))).squeeze S_ squeezes_S1_S_).sem
abbrev recvS (j : Dev nD) : DmaSem sig :=
  ((cc0_scratch5.slice (Rect.unit (s := S4) ![j.val] S1.size (cell_inb j))).squeeze S_ squeezes_S1_S_).sem

/-- The kernel's own cells of a device: the copy's, the send cells, the receive cells; -/
abbrev OwnIx : Type := Option (Dev nD ⊕ Dev nD)
abbrev osem : OwnIx → SemLoc sig
  | none => .dma copyS
  | some (.inl j) => .dma (sendS j)
  | some (.inr j) => .dma (recvS j)

/-- and all ten: the barrier besides. -/
abbrev CellIx : Type := Option OwnIx
abbrev csem : CellIx → SemLoc sig
  | none => .reg barS
  | some k => osem k
abbrev kcell (ck : Dev nD × CellIx) : GSem nD τ sig := ((ck.1 : Thread nD τ), csem ck.2)

abbrev iBar : CellIx := none
abbrev iCopy : CellIx := some none
abbrev iSend (j : Dev nD) : CellIx := some (some (.inl j))
abbrev iRecv (j : Dev nD) : CellIx := some (some (.inr j))

abbrev barCell (c : Dev nD) : GSem nD τ sig := kcell (c, iBar)
abbrev copyCell (c : Dev nD) : GSem nD τ sig := kcell (c, iCopy)
abbrev sendCell (c j : Dev nD) : GSem nD τ sig := kcell (c, iSend j)
abbrev recvCell (c j : Dev nD) : GSem nD τ sig := kcell (c, iRecv j)

def cellList : List CellIx :=
  [iBar, iCopy, iSend 0, iSend 1, iSend 2, iSend 3, iRecv 0, iRecv 1, iRecv 2, iRecv 3]

/-- Which of the ten cells a semaphore is. -/
def roleOf (l : SemLoc sig) : Option CellIx := cellList.find? fun k => decide (csem k = l)

theorem roleOf_csem (k : CellIx) : roleOf (csem k) = some k := by revert k; decide

theorem csem_injective : Function.Injective csem := fun a b h =>
  Option.some_injective _ ((roleOf_csem a).symm.trans ((congrArg roleOf h).trans (roleOf_csem b)))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The credit of a transfer of the totals, and of the copy of a block. -/
def N : ℕ := (cM : Memref sig .tc .vmem S1x1024 .f32).view.dmaCredit
def NX : ℕ := (oM : Memref sig .tc .vmem S4096x1024 .f32).view.dmaCredit
theorem N_pos : 0 < N := View.dmaCredit_pos _ (by decide)
theorem NX_pos : 0 < NX := View.dmaCredit_pos _ (by decide)

/-! ## Contents -/

/-- Device `c`'s block of `x`. -/
def xblk (c : Dev nD) : Vec F S4096x1024 .f32 := m ((c : Thread nD τ).loc main_arg0)

/-- The contents after `k` doubling steps. -/
def doubled (X : Vec F S4096x1024 .f32) : ℕ → Vec F S4096x1024 .f32
  | 0 => X
  | k + 1 => scanStep (2 ^ k) (doubled X k)

/-- The index of row `r` in the column of `i`. -/
def atRow (r : Fin 4096) (i : S1x1024.Idx) : S4096x1024.Idx := fun a => match a with | ⟨0, _⟩ => r | ⟨1, _⟩ => i 1

/-- The column totals that device `c` sends: after eleven steps, row 2047 times row 4095. -/
def total (c : Dev nD) : Vec F S1x1024 .f32 :=
  fun i => FloatOps.mulf (φ := .f32) (doubled (xblk m c) 11 (atRow 2047 i)) (doubled (xblk m c) 11 (atRow 4095 i))

/-! ## What each cell hands over -/

/-- `d`'s signal to `c`: slot `c` of `d`'s receive buffer, and that `d`'s receive cell `c` is at its round. -/
def barPay (c d : Dev nD) : sProp 𝕄 :=
  iprop(reached ER (recvCell d c) 0 ∗ ∃ X, owns (d : Thread nD τ) (slot c) fullShare X)
/-- The copy of device `c`'s block: the first buffer holds the block, and the block is untouched. -/
def copyPay (c : Dev nD) : sProp 𝕄 :=
  iprop(owns (c : Thread nD τ) oM fullShare (xblk m c) ∗ owns (c : Thread nD τ) xM fullShare (xblk m c))
/-- One share of device `c`'s totals buffer, at its totals. -/
def sharePts (c j : Dev nD) : sProp 𝕄 := owns (c : Thread nD τ) cM (ShareLeaves.leaf 2 fullShare j) (total m c)
/-- Slot `j` of device `c`'s receive buffer, at device `j`'s totals. -/
def recvPay (c j : Dev nD) : sProp 𝕄 := owns (c : Thread nD τ) (slot j) fullShare (total m j)

omit [FloatOps F] in
instance owns_storable (c : Dev nD) {sp : Space} {s : Shape} {e : EltTy} (r : Memref sig .tc sp s e) (q : PosShare TreeShare) (X : s.Idx → Elt F e) :
    BI.Storable (upEmb : UEmb _ 𝕄) (owns (c : Thread nD τ) r q X : sProp 𝕄) := by unfold owns; infer_instance

/-! ## The schedule -/

/-- One round per cell. -/
def sched : Rounds.Schedule (GSem nD τ sig) (Dev nD) 𝕄 where
  duties g r := if r = 0 ∧ g.1.2 = .tc then
      match roleOf g.2 with
      | some none => Finset.univ.erase g.1.1
      | some (some none) => {0}
      | some (some (some (.inl j))) => if j = g.1.1 then ∅ else {0}
      | some (some (some (.inr j))) => if j = g.1.1 then ∅ else {0}
      | none => ∅
    else ∅
  unitless _ := False
  amount g _ _ := match roleOf g.2 with
    | some none => 1
    | some (some none) => NX
    | _ => N
  payload g _ d := match roleOf g.2 with
    | some none => barPay g.1.1 d
    | some (some none) => copyPay m g.1.1
    | some (some (some (.inl j))) => sharePts m g.1.1 j
    | some (some (some (.inr j))) => recvPay m g.1.1 j
    | none => iprop(emp)
  amount_pos g _ _ _ := by
    split
    · exact Nat.one_pos
    · exact NX_pos
    · exact N_pos

instance sched_payload_storable (g : GSem nD τ sig) (r : ℕ) (d : Dev nD) :
    BI.Storable (upEmb : UEmb _ 𝕄) ((sched (F := F) m).payload g r d) := by
  show BI.Storable upEmb (match roleOf g.2 with
    | some none => barPay g.1.1 d
    | some (some none) => copyPay m g.1.1
    | some (some (some (.inl j))) => sharePts m g.1.1 j
    | some (some (some (.inr j))) => recvPay m g.1.1 j
    | none => iprop(emp))
  unfold barPay copyPay sharePts recvPay
  split <;> infer_instance

section Sched
variable (c j d : Dev nD)

theorem duties_bar : (sched (F := F) m).duties (barCell c) 0 = Finset.univ.erase c := by
  dsimp only [sched]; rw [if_pos ⟨rfl, rfl⟩, roleOf_csem]
theorem duties_copy : (sched (F := F) m).duties (copyCell c) 0 = {0} := by
  dsimp only [sched]; rw [if_pos ⟨rfl, rfl⟩, roleOf_csem]
theorem duties_send : (sched (F := F) m).duties (sendCell c j) 0 = if j = c then ∅ else {0} := by
  dsimp only [sched]; rw [if_pos ⟨rfl, rfl⟩, roleOf_csem]
theorem duties_recv : (sched (F := F) m).duties (recvCell c j) 0 = if j = c then ∅ else {0} := by
  dsimp only [sched]; rw [if_pos ⟨rfl, rfl⟩, roleOf_csem]
theorem duties_later (g : GSem nD τ sig) : ∀ r, 1 ≤ r → (sched (F := F) m).duties g r = ∅ :=
  fun r hr => by dsimp only [sched]; rw [if_neg fun h => by omega]

theorem amount_bar : (sched (F := F) m).amount (barCell c) 0 d = 1 := by dsimp only [sched]; rw [roleOf_csem]
theorem amount_copy : (sched (F := F) m).amount (copyCell c) 0 d = NX := by dsimp only [sched]; rw [roleOf_csem]
theorem amount_send : (sched (F := F) m).amount (sendCell c j) 0 d = N := by dsimp only [sched]; rw [roleOf_csem]
theorem amount_recv : (sched (F := F) m).amount (recvCell c j) 0 d = N := by dsimp only [sched]; rw [roleOf_csem]

theorem payload_bar : (sched (F := F) m).payload (barCell c) 0 d = barPay c d := by dsimp only [sched]; rw [roleOf_csem]
theorem payload_copy : (sched (F := F) m).payload (copyCell c) 0 d = copyPay m c := by dsimp only [sched]; rw [roleOf_csem]
theorem payload_send : (sched (F := F) m).payload (sendCell c j) 0 d = sharePts m c j := by dsimp only [sched]; rw [roleOf_csem]
theorem payload_recv : (sched (F := F) m).payload (recvCell c j) 0 d = recvPay m c j := by dsimp only [sched]; rw [roleOf_csem]

theorem expect_bar : (sched (F := F) m).expect (barCell c) 0 = 3 := by
  unfold Schedule.expect Schedule.amountOf
  rw [duties_bar, Finset.sum_congr rfl fun d _ => amount_bar m c d, Finset.sum_const, Finset.card_erase_of_mem (Finset.mem_univ _), Finset.card_univ, Fintype.card_fin, smul_eq_mul]; decide
/-- A round of one duty expects that duty's amount. -/
theorem expect_one {g : GSem nD τ sig} {d : Dev nD} {n : ℕ} (hd : (sched (F := F) m).duties g 0 = {d}) (ha : (sched (F := F) m).amount g 0 d = n) :
    (sched (F := F) m).expect g 0 = n := by
  unfold Schedule.expect Schedule.amountOf; rw [hd, Finset.sum_singleton, ha]
theorem expect_copy : (sched (F := F) m).expect (copyCell c) 0 = NX := expect_one m (duties_copy m c) (amount_copy m c 0)
theorem expect_send (h : j ≠ c) : (sched (F := F) m).expect (sendCell c j) 0 = N :=
  expect_one m ((duties_send m c j).trans (if_neg h)) (amount_send m c j 0)
theorem expect_recv (h : j ≠ c) : (sched (F := F) m).expect (recvCell c j) 0 = N :=
  expect_one m ((duties_recv m c j).trans (if_neg h)) (amount_recv m c j 0)

theorem rest_bar : bigSep ((sched (F := F) m).duties (barCell c) 0 \ ∅) (fun d => (sched (F := F) m).payload (barCell c) 0 d)
    = bigSep (Finset.univ.erase c) fun d => barPay (F := F) c d := by
  rw [Finset.sdiff_empty, duties_bar]; exact bigSep_congr fun d _ => payload_bar m c d
theorem rest_copy : bigSep ((sched (F := F) m).duties (copyCell c) 0 \ ∅) (fun d => (sched (F := F) m).payload (copyCell c) 0 d) = copyPay m c := by
  rw [Finset.sdiff_empty, duties_copy, bigSep_singleton, payload_copy]
theorem rest_send (h : j ≠ c) : bigSep ((sched (F := F) m).duties (sendCell c j) 0 \ ∅) (fun d => (sched (F := F) m).payload (sendCell c j) 0 d) = sharePts m c j := by
  rw [Finset.sdiff_empty, duties_send, if_neg h, bigSep_singleton, payload_send]
theorem rest_recv (h : j ≠ c) : bigSep ((sched (F := F) m).duties (recvCell c j) 0 \ ∅) (fun d => (sched (F := F) m).payload (recvCell c j) 0 d) = recvPay m c j := by
  rw [Finset.sdiff_empty, duties_recv, if_neg h, bigSep_singleton, payload_recv]

end Sched

/-! ## What a device owes, and the levels -/

/-- What a device does for its peers, in program order: it signals (`.inl`), then it sends (`.inr`). -/
abbrev Act : Type := Dev nD ⊕ Dev nD
def acts : List Act := [.inl 0, .inl 1, .inl 2, .inl 3, .inr 0, .inr 1, .inr 2, .inr 3]
def sends : List Act := [.inr 0, .inr 1, .inr 2, .inr 3]

/-- What device `c` owes for one act: nothing to itself. -/
def owedFor (c : Dev nD) : Act → CellTallies nD τ sig Unit
  | .inl j => if j = c then 0 else tallyAt (barCell j) () 1
  | .inr j => if j = c then 0 else tallyAt (recvCell j c) () N

/-- What device `c` owes while the acts `l` are ahead. -/
def owed (c : Dev nD) : List Act → CellTallies nD τ sig Unit
  | [] => 0
  | a :: l => owed c l + owedFor c a

def L (g : GSem nD τ sig) : Finset Unit := if g.1.2 = .tc then {()} else ∅
/-- Barrier cells at 1, receive cells at 2, everything else at 0. -/
def lv (g : GSem nD τ sig) (_ : Unit) : ℕ := match roleOf g.2 with
  | some none => 1
  | some (some (some (.inr _))) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; dsimp only; rw [roleOf_csem]
theorem lv_copy (c : Dev nD) (u : Unit) : lv (copyCell c) u = 0 := by unfold lv; dsimp only; rw [roleOf_csem]
theorem lv_send (c j : Dev nD) (u : Unit) : lv (sendCell c j) u = 0 := by unfold lv; dsimp only; rw [roleOf_csem]
theorem lv_recv (c j : Dev nD) (u : Unit) : lv (recvCell c j) u = 2 := by unfold lv; dsimp only; rw [roleOf_csem]

/-- Nothing, or one tally: where it is positive, it is the tally's cell. -/
theorem tally_pos {p : Prop} [Decidable p] {g g' : GSem nD τ sig} {n : ℕ} {u : Unit}
    (h : 0 < (if p then 0 else tallyAt g () n : CellTallies nD τ sig Unit) g' u) : g' = g := by
  by_contra hn
  by_cases hp : p
  · rw [if_pos hp] at h; exact Nat.lt_irrefl 0 h
  · rw [if_neg hp, tallyAt_apply, if_neg (fun h' => hn h'.1)] at h; exact Nat.lt_irrefl 0 h

theorem owedFor_pos {c : Dev nD} {a : Act} {g : GSem nD τ sig} {u : Unit} (h : 0 < owedFor c a g u) :
    (∃ j, a = .inl j ∧ g = barCell j) ∨ ∃ j, a = .inr j ∧ g = recvCell j c := by
  rcases a with j | j
  · exact .inl ⟨j, rfl, tally_pos h⟩
  · exact .inr ⟨j, rfl, tally_pos h⟩

theorem owed_apply (c : Dev nD) (l : List Act) (g : GSem nD τ sig) (u : Unit) :
    owed c l g u = (l.map fun a => owedFor c a g u).sum := by
  induction l with
  | nil => rfl
  | cons a l ih =>
    unfold owed
    rw [Pi.add_apply, Finsupp.add_apply, ih, List.map_cons, List.sum_cons, Nat.add_comm]

theorem owed_pos {c : Dev nD} {l : List Act} {g : GSem nD τ sig} {u : Unit} (h : 0 < owed c l g u) : ∃ a ∈ l, 0 < owedFor c a g u := by
  induction l with
  | nil => exact absurd h (Nat.lt_irrefl 0)
  | cons a l ih =>
    unfold owed at h
    rw [Pi.add_apply, Finsupp.add_apply] at h
    rcases Nat.eq_zero_or_pos (owedFor c a g u) with h0 | h0
    · rw [h0, Nat.add_zero] at h
      obtain ⟨b, hb, hb'⟩ := ih h
      exact ⟨b, List.mem_cons_of_mem _ hb, hb'⟩
    · exact ⟨a, List.mem_cons_self, h0⟩

/-- Every cell that a device owes to is at level 1 or 2; at level 2 if it has only sends ahead. -/
theorem level_owed {c : Dev nD} {l : List Act} {g : GSem nD τ sig} {u : Unit} (h : 0 < owed c l g u) :
    L g = {()} ∧ 1 ≤ lv g u ∧ ((∀ j, Sum.inl j ∉ l) → 2 ≤ lv g u) := by
  obtain ⟨a, ha, hp⟩ := owed_pos h
  rcases owedFor_pos hp with ⟨j, rfl, rfl⟩ | ⟨j, rfl, rfl⟩
  · refine ⟨L_tc _ _, ?_, fun hl => absurd ha (hl j)⟩
    rw [lv_bar]
  · rw [lv_recv]; exact ⟨L_tc _ _, by decide, fun _ => le_rfl⟩

omit [FloatOps F] in
/-- A device may wait on a cell at level 0 whatever it owes. -/
theorem mayWait_low (c : Dev nD) (sm : SemLoc sig) (hsm : lv ((c : Thread nD τ), sm) () = 0) (l : List Act) :
    (levAts L lv : sProp 𝕄) ⊢ MayWait (c : Thread nD τ) sm () (owed c l) :=
  MayOwe.of_cut (L := L) (lev := lv) 0 (fun p hp => by rw [Finset.mem_singleton.mp hp, L_tc]; exact Finset.mem_singleton_self _)
    (fun g u hg => by rw [(level_owed hg).1]; exact Finset.mem_singleton_self _)
    (fun p hp => by rw [Finset.mem_singleton.mp hp]; exact hsm.le)
    (fun g u hg => (level_owed hg).2.1)

omit [FloatOps F] in
/-- A device with only sends ahead may wait on its barrier. -/
theorem mayWait_bar (c : Dev nD) : (levAts L lv : sProp 𝕄) ⊢ MayWait (c : Thread nD τ) (.reg barS) () (owed c sends) :=
  MayOwe.of_cut (L := L) (lev := lv) 1 (fun p hp => by rw [Finset.mem_singleton.mp hp, L_tc]; exact Finset.mem_singleton_self _)
    (fun g u hg => by rw [(level_owed hg).1]; exact Finset.mem_singleton_self _)
    (fun p hp => by rw [Finset.mem_singleton.mp hp]; exact (lv_bar c ()).le)
    (fun g u hg => (level_owed hg).2.2 fun j h => by simp [sends] at h)

end Cert.RowProduct

end
-- ==== Proof.Steps.lean ====
/-
The steps between the devices, each stated once for any peer.

A step that concerns device `j` is run by device `c` only if `j ≠ c`; what it takes and gives is written
`peer c j P`, which is `P` for another device and nothing for the device itself (`self c j P` is the opposite). Each
step's rule reads the kernel's conditional as the kernel prints it.
-/
module

public import proofs.«01_k».proof.Proof.Protocol

@[expose] public section

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Resources of the peers and of the device itself -/

/-- `P` for another device, nothing for `c` itself; -/
def peer (c j : Dev nD) (P : sProp 𝕄) : sProp 𝕄 := if j = c then iprop(emp) else P
/-- `P` for `c` itself, nothing for another device. -/
def self (c j : Dev nD) (P : sProp 𝕄) : sProp 𝕄 := if j = c then P else iprop(emp)

section Peer
variable {c j : Dev nD}

omit [FloatOps F] in
theorem peer_eq (h : j = c) (P : sProp 𝕄) : peer c j P = iprop(emp) := if_pos h
omit [FloatOps F] in
theorem peer_ne (h : j ≠ c) (P : sProp 𝕄) : peer c j P = P := if_neg h
omit [FloatOps F] in
theorem self_eq (h : j = c) (P : sProp 𝕄) : self c j P = P := if_pos h
omit [FloatOps F] in
theorem self_ne (h : j ≠ c) (P : sProp 𝕄) : self c j P = iprop(emp) := if_neg h

omit [FloatOps F] in
theorem peer_self (P : sProp 𝕄) : P ⊢ iprop(peer c j P ∗ self c j P) := by
  by_cases h : j = c
  · rw [peer_eq h, self_eq h]; iintro H; isplitr; · iempintro
    iexact H
  · rw [peer_ne h, self_ne h]; iintro H; isplitl; · iexact H
    iempintro
omit [FloatOps F] in
theorem peer_self_join (P : sProp 𝕄) : iprop(peer c j P ∗ self c j P) ⊢ P := by
  by_cases h : j = c
  · rw [peer_eq h, self_eq h]; iintro ⟨-, H⟩; iexact H
  · rw [peer_ne h, self_ne h]; iintro ⟨H, -⟩; iexact H

omit [FloatOps F] in
theorem peer_intro (P : sProp 𝕄) : P ⊢ peer c j P := by
  by_cases h : j = c
  · rw [peer_eq h]; iintro -; iempintro
  · rw [peer_ne h]

omit [FloatOps F] in
theorem peer_sep (P Q : sProp 𝕄) : iprop(peer c j P ∗ peer c j Q) ⊢ peer c j iprop(P ∗ Q) := by
  by_cases h : j = c
  · rw [peer_eq h, peer_eq h, peer_eq h]; iintro -; iempintro
  · rw [peer_ne h, peer_ne h, peer_ne h]

omit [FloatOps F] in
theorem bigSep_four (Φ : Dev nD → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- What every other device gives, device by device. -/
theorem bigSep_peers (c : Dev nD) (Φ : Dev nD → sProp 𝕄) :
    bigSep (Finset.univ.erase c) Φ ⊢ bigSep Finset.univ fun j => peer c j (Φ j) := by
  rw [BI.bigSep_erase (Finset.mem_univ c)]; simp only [peer_eq]; show _ ⊢ iprop(_ ∗ _)
  iintro H
  isplitr; · iempintro
  iapply (show (bigSep (Finset.univ.erase c) Φ : sProp 𝕄) ⊢ bigSep (Finset.univ.erase c) fun j => peer c j (Φ j) from bigSep_mono fun j _ => peer_intro (Φ j))
  iexact H

end Peer

/-! ## The cells' records -/

/-- Every cell's invariant, and that each is at its round. -/
def records (K : Dev nD × CellIx → ℕ) : sProp 𝕄 :=
  iprop((bigSep Finset.univ fun ck : Dev nD × CellIx => cellInv ER (sched m) (K ck) (kcell ck))
    ∗ bigSep Finset.univ fun ck : Dev nD × CellIx => reached ER (kcell ck) 0)

instance records_persistent (K : Dev nD × CellIx → ℕ) : BI.Persistent (records m K) := by unfold records; infer_instance

omit [FloatOps F] in
theorem of_all {α : Type} [Fintype α] [DecidableEq α] (Φ : α → sProp 𝕄) (a : α) : bigSep Finset.univ Φ ⊢ Φ a :=
  bigSep_elim (Finset.mem_univ a)

theorem inv_at (K : Dev nD × CellIx → ℕ) (ck : Dev nD × CellIx) : records m K ⊢ cellInv ER (sched m) (K ck) (kcell ck) := by
  unfold records; iintro ⟨H, -⟩; iapply (of_all (fun ck => cellInv ER (sched m) (K ck) (kcell ck)) ck); iexact H
theorem reached_at (K : Dev nD × CellIx → ℕ) (ck : Dev nD × CellIx) : records m K ⊢ reached ER (kcell ck) 0 := by
  unfold records; iintro ⟨-, H⟩; iapply (of_all (fun ck => (reached ER (kcell ck) 0 : sProp 𝕄)) ck); iexact H

abbrev 𝒱₀ : Variants := Variants.none

theorem owed_cons (c : Dev nD) (a : Act) (l : List Act) : owed c (a :: l) = owed c l + owedFor c a := rfl
theorem owedFor_inl (c j : Dev nD) : owedFor c (.inl j) = if j = c then 0 else tallyAt (barCell j) () 1 := rfl
theorem owedFor_inr (c j : Dev nD) : owedFor c (.inr j) = if j = c then 0 else tallyAt (recvCell j c) () N := rfl
theorem owed_inl_ne {c j : Dev nD} (h : j ≠ c) (l : List Act) : owed c (.inl j :: l) = owed c l + tallyAt (barCell j) () 1 := by
  rw [owed_cons, owedFor_inl, if_neg h]
theorem owed_inr_ne {c j : Dev nD} (h : j ≠ c) (l : List Act) : owed c (.inr j :: l) = owed c l + tallyAt (recvCell j c) () N := by
  rw [owed_cons, owedFor_inr, if_neg h]
theorem slot_credit (j : Dev nD) : (slot j).view.dmaCredit = N := rfl
theorem cM_credit : (cM).view.dmaCredit = N := rfl
theorem oM_credit : (oM).view.dmaCredit = NX := rfl
theorem oM_amount : (oM).view.amount (.dma copyS) = NX := rfl
/-- A transfer into a slot counts one buffer of totals. -/
theorem slot_amount (j j' : Dev nD) : (slot j).view.amount (.dma (recvS j')) = N := rfl

section Steps

variable (K : Dev nD × CellIx → ℕ) (c j : Dev nD)

/-- The signal to device `j`'s barrier: `c` hands `j` its slot `j`. -/
theorem wp_signal_peer {α : Type} {b : Prop} {_ : Decidable b} (hb : b ↔ j ≠ c) {p : b → Prog (TpuEff nD τ sig (Elt F) Λ₀ .tc) α}
    {rest : Prog (TpuEff nD τ sig (Elt F) Λ₀ .tc) α}
    (hp : ∀ h, ∃ n : Dev nD, n = j ∧ p h = .op (.semSignal (n, Proc.tc) barS (1#32).toInt) fun _ => rest) (l : List Act) (W : Waits sig Unit) {Q : α → sProp 𝕄} :
    iprop(records m K ∗ owes (c : Thread nD τ) (owed c (.inl j :: l)) W
        ∗ peer c j (dutyTok ER (barCell j) 0 c) ∗ peer c j iprop(∃ X, owns (c : Thread nD τ) (slot j) fullShare X))
      ⊢ iprop((owes (c : Thread nD τ) (owed c l) W -∗ wp frame (wpE (defs₀ (F := F)) 𝒱₀ (c : Thread nD τ) none) Set.univ rest Q)
          -∗ wp frame (wpE (defs₀ (F := F)) 𝒱₀ (c : Thread nD τ) none) Set.univ (if h : b then p h else rest) Q) := by
  by_cases hj : j = c
  · rw [dif_neg fun h => hb.mp h hj, owed_cons, owedFor_inl, if_pos hj, add_zero]
    iintro ⟨-, HO, -, -⟩ Hk
    iapply Hk; iexact HO
  · obtain ⟨n, hn, hp⟩ := hp (hb.mpr hj)
    replace hn := hn.symm; subst hn
    rw [dif_pos (hb.mpr hj), hp, peer_ne hj, peer_ne hj]
    iintro ⟨#HR, HO, Ht, Hs⟩ Hk
    iapply (Rounds.wp_signal 𝒱₀ ER (sched m) (c : Thread nD τ) none (dst := (j : Thread nD τ)) (κ := K (j, iBar)) (r := 0)
      (d := c) (by rw [duties_bar]; exact Finset.mem_erase.mpr ⟨fun h => hj h.symm, Finset.mem_univ _⟩) ((amount_bar m j c).trans (by decide)) () (owed c l)
      (owed_inl_ne hj l)) $$ [HO Ht Hs]
    · isplitr; · iapply (inv_at m K (j, iBar)); iexact HR
      isplitl [HO]; · iexact HO
      isplitl [Ht]; · iexact Ht
      isplitl [Hs]
      · rw [payload_bar]; unfold barPay
        isplitr; · iapply (reached_at m K (c, iRecv j)); iexact HR
        iexact Hs
      · iapply (reached_at m K (j, iBar)); iexact HR
    iintro HO
    iapply Hk; iexact HO

/-- The transfer of `c`'s totals to slot `c` of device `j`. -/
theorem wp_send_peer {α : Type} {b : Prop} {_ : Decidable b} (hb : b ↔ j ≠ c) {p : b → Prog (TpuEff nD τ sig (Elt F) Λ₀ .tc) α}
    {rest : Prog (TpuEff nD τ sig (Elt F) Λ₀ .tc) α}
    (hp : ∀ h, ∃ (n : Dev nD) (offS : Fin 1 → ℕ) (offR : Fin 3 → ℕ) (inbS : ∀ a : Fin S4.rank, offS a + S1.size a ≤ S4.size a)
      (inbR : ∀ a : Fin S4x1x1024.rank, offR a + S1x1x1024.size a ≤ S4x1x1024.size a) (hsc : _) (w1 : _) (w2 : _) (w3 : _),
      n = j ∧ offS = ![c.val] ∧ offR = ![c.val, 0, 0] ∧
      p h = .op (.enqueueDma cM (.remote (n : Thread nD τ)
          ((rM.slice (Rect.unit (s := S4x1x1024) offR S1x1x1024.size inbR) (fun _ => rfl)).squeeze S1x1024 squeezes_S1x1x1024_S1x1024) (.dma (sendS j)) hsc)
        (.dma ((cc0_scratch5.slice (Rect.unit (s := S4) offS S1.size inbS)).squeeze S_ squeezes_S1_S_).sem) w1 w2 w3) fun _ => rest)
    (l : List Act) (W : Waits sig Unit) {Q : α → sProp 𝕄} :
    iprop(records m K ∗ owes (c : Thread nD τ) (owed c (.inr j :: l)) W
        ∗ peer c j iprop(dutyTok ER (sendCell c j) 0 0 ∗ dutyTok ER (recvCell j c) 0 0)
        ∗ peer c j (barPay (F := F) c j) ∗ peer c j (sharePts m c j))
      ⊢ iprop(((owes (c : Thread nD τ) (owed c l) W ∗ peer c j (cred (tallyAt (sendCell c j) () N)))
            -∗ wp frame (wpE (defs₀ (F := F)) 𝒱₀ (c : Thread nD τ) none) Set.univ rest Q)
          -∗ wp frame (wpE (defs₀ (F := F)) 𝒱₀ (c : Thread nD τ) none) Set.univ (if h : b then p h else rest) Q) := by
  by_cases hj : j = c
  · rw [dif_neg fun h => hb.mp h hj, owed_cons, owedFor_inr, if_pos hj, add_zero, peer_eq hj]
    iintro ⟨-, HO, -⟩ Hk
    iapply Hk
    isplitl; · iexact HO
    rw [peer_eq hj]; iempintro
  · obtain ⟨n, _, _, _, _, hsc, w1, w2, w3, hn, rfl, rfl, hp⟩ := hp (hb.mpr hj)
    replace hn := hn.symm; subst hn
    rw [dif_pos (hb.mpr hj), hp]
    simp only [peer_ne hj]
    unfold barPay sharePts owns
    iintro ⟨#HR, HO, ⟨Ht1, Ht2⟩, ⟨-, %X, %f, -, Hd⟩, ⟨%g, %hg, Hs⟩⟩ Hk
    iapply (Rounds.wp_send_pointsTo 𝒱₀ ER (sched m) (c : Thread nD τ) none (src := cM) (dst := slot c) (c' := (j : Thread nD τ)) (sS := .dma (sendS j)) (sem := .dma (recvS c)) (κ₁ := K (c, iSend j)) (κ₂ := K (j, iRecv c))
      (r₁ := 0) (r₂ := 0) (d₁ := 0) (d₂ := 0) (fd := f) (fs := g)
      (by rw [duties_send, if_neg hj]; exact Finset.mem_singleton_self _)
      (by rw [duties_recv, if_neg fun h => hj h.symm]; exact Finset.mem_singleton_self _)
      () () N (slot_amount c c) (amount_send m c j 0) (amount_recv m j c 0) (owed c l) (owed_inr_ne hj l) (W := W)
      (by
        rw [payload_send]; unfold sharePts owns
        iintro H; iexists g
        isplitr; · ipureintro; exact hg
        iexact H)
      (by
        rw [payload_recv]; unfold recvPay owns
        iintro H; iexists _
        isplitr; rotate_left; · iexact H
        ipureintro
        rw [View.read_write_univ, hg])) $$ [HO Ht1 Ht2 Hd Hs]
    · isplitr; · iapply (inv_at m K (c, iSend j)); iexact HR
      isplitr; · iapply (inv_at m K (j, iRecv c)); iexact HR
      isplitl [Hs]; · iexact Hs
      isplitl [Hd]; · iexact Hd
      isplitl [HO]; · iexact HO
      isplitl [Ht1]; · iexact Ht1
      isplitr; · iapply (reached_at m K (c, iSend j)); iexact HR
      isplitl [Ht2]; · iexact Ht2
      · iapply (reached_at m K (j, iRecv c)); iexact HR
    iintro ⟨Hc, HO⟩
    iapply Hk
    isplitl [HO]; · iexact HO
    iexact Hc

/-- The copy of `c`'s block into the first buffer. -/
theorem wp_copy_block {α : Type} {w1 w2 w3} {k : PUnit → Prog (TpuEff nD τ sig (Elt F) Λ₀ .tc) α} {Q : α → sProp 𝕄} :
    iprop(records m K ∗ owns (c : Thread nD τ) xM fullShare (xblk m c) ∗ dutyTok ER (copyCell c) 0 0 ∗ ∃ X, owns (c : Thread nD τ) oM fullShare X)
      ⊢ iprop((cred (tallyAt (copyCell c) () NX) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma xM (.here oM) (.dma copyS) w1 w2 w3) k) Q) := by
  unfold owns
  iintro ⟨#HR, ⟨%g, %hg, Hx⟩, Ht, ⟨%X, %f, -, Ho⟩⟩ Hk
  iapply (Rounds.wp_copy_pointsTo 𝒱₀ ER (sched m) (c : Thread nD τ) none (κ := K (c, iCopy)) (src := xM) (dst := oM) (sem := .dma copyS)
    (r := 0) (d := 0) (fs := g) (fd := f) (by rw [duties_copy]; exact Finset.mem_singleton_self _) () NX oM_amount (amount_copy m c 0)
    (by
      rw [payload_copy]; unfold copyPay owns
      iintro ⟨Ho, Hx⟩
      isplitl [Ho]
      · iexists _
        isplitr; rotate_left; · iexact Ho
        ipureintro; rw [View.read_write_univ, hg]
      iexists g
      isplitr; · ipureintro; exact hg
      iexact Hx)) $$ [Hx Ho Ht]
  · isplitr; · iapply (inv_at m K (c, iCopy)); iexact HR
    isplitl [Hx]; · iexact Hx
    isplitl [Ho]; · iexact Ho
    isplitl [Ht]; · iexact Ht
    iapply (reached_at m K (c, iCopy)); iexact HR
  iintro Hc
  iapply Hk; iexact Hc

/-- The wait for the three signals: every other device's slot `c` has come. -/
theorem wp_wait_bar {α : Type} (W : Waits sig Unit) {k : PUnit → Prog (TpuEff nD τ sig (Elt F) Λ₀ .tc) α} {Q : α → sProp 𝕄} :
    iprop(records m K ∗ levAts L lv ∗ owes (c : Thread nD τ) (owed c sends) W ∗ cred (tallyAt (barCell c) () 3) ∗ atPos ER (barCell c) 0 ∅ 0)
      ⊢ iprop((∀ W', iprop(owes (c : Thread nD τ) (owed c sends) W' ∗ semVal (barCell c) 0 ∗ bigSep Finset.univ fun j => peer c j (barPay (F := F) c j))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  iintro ⟨#HR, #Hlev, HO, Hc, Ha⟩ Hk
  iapply (Rounds.wp_wait_rest_token 𝒱₀ ER (sched m) (c : Thread nD τ) none (κ := K (c, iBar))
    (wpE_semWait_eq 𝒱₀ (c : Thread nD τ) none Set.univ) (Set.mem_univ _) () (O := owed c sends) (W := W) (R := 0) (m := 0) (T := ∅)
    (by rw [expect_bar]; decide)) $$ [Hc HO Ha]
  · isplitr; · iapply (inv_at m K (c, iBar)); iexact HR
    isplitl [Hc]; · iexact Hc
    isplitl [HO]; · iexact HO
    isplitr; · iapply (mayWait_bar c); iexact Hlev
    iexact Ha
  iintro ⟨HO, Ha, -, Hp⟩
  ihave Hp := (Entails.of_eq (rest_bar m c)) $$ Hp
  ihave Hp := (bigSep_peers c (barPay (F := F) c)) $$ Hp
  imod (Rounds.cell_close ER (sched m) (Set.mem_univ (K (c, iBar))) (fun h => h) (R := 0 + 1) (duties_later m _)) $$ [Ha] with Hz
  · isplitr; · iapply (inv_at m K (c, iBar)); iexact HR
    iexact Ha
  iapply Hk $$ %_
  isplitl [HO]; · iexact HO
  isplitl [Hz]; · iexact Hz
  iexact Hp

/-- The wait for the copy: the first buffer holds the block, which is untouched. -/
theorem wp_wait_copy {α : Type} (l : List Act) (W : Waits sig Unit) {w1 w2} {k : PUnit → Prog (TpuEff nD τ sig (Elt F) Λ₀ .tc) α} {Q : α → sProp 𝕄} :
    iprop(records m K ∗ levAts L lv ∗ owes (c : Thread nD τ) (owed c l) W ∗ cred (tallyAt (copyCell c) () NX) ∗ atPos ER (copyCell c) 0 ∅ 0)
      ⊢ iprop((∀ W', iprop(owes (c : Thread nD τ) (owed c l) W' ∗ semVal (copyCell c) 0
              ∗ owns (c : Thread nD τ) oM fullShare (xblk m c) ∗ owns (c : Thread nD τ) xM fullShare (xblk m c))
            -∗ wp frame (wpE (defs₀ (F := F)) 𝒱₀ (c : Thread nD τ) none) Set.univ (k ⟨⟩) Q)
          -∗ wp frame (wpE (defs₀ (F := F)) 𝒱₀ (c : Thread nD τ) none) Set.univ (.op (TpuEff.waitDma2 (p := .tc) copyS xM oM w1 w2) k) Q) := by
  iintro ⟨#HR, #Hlev, HO, Hc, Ha⟩ Hk
  iapply (Rounds.wp_wait_rest_token 𝒱₀ ER (sched m) (c : Thread nD τ) none (κ := K (c, iCopy)) (sm := .dma copyS)
    (wpE_waitDma2_eq 𝒱₀ (c : Thread nD τ) none Set.univ (dst := oM)) (Set.mem_univ _) () (O := owed c l) (W := W) (R := 0) (m := 0) (T := ∅)
    ((Nat.zero_add _).trans (oM_credit.trans (expect_copy m c).symm))) $$ [Hc HO Ha]
  · isplitr; · iapply (inv_at m K (c, iCopy)); iexact HR
    isplitl [Hc]; · rw [oM_credit]; iexact Hc
    isplitl [HO]; · iexact HO
    isplitr; · iapply (mayWait_low c (.dma copyS) (lv_copy c ()) l); iexact Hlev
    iexact Ha
  iintro ⟨HO, Ha, -, Hp⟩
  ihave Hp := (Entails.of_eq (rest_copy m c)) $$ Hp
  imod (Rounds.cell_close ER (sched m) (Set.mem_univ (K (c, iCopy))) (fun h => h) (R := 0 + 1) (duties_later m _)) $$ [Ha] with Hz
  · isplitr; · iapply (inv_at m K (c, iCopy)); iexact HR
    iexact Ha
  unfold copyPay
  icases Hp with ⟨Ho, Hx⟩
  iapply Hk $$ %_
  isplitl [HO]; · iexact HO
  isplitl [Hz]; · iexact Hz
  isplitl [Ho]; · iexact Ho
  iexact Hx

/-- The waits for device `j`'s totals and for the end of `c`'s own transfer to `j`: slot `j` holds `j`'s totals (anything,
    where `j` is `c`), the lent share is back, and both semaphores close at zero. -/
theorem wp_wait_peer {α : Type} {b : Prop} {_ : Decidable b} (hb : b ↔ j ≠ c) {p : b → Prog (TpuEff nD τ sig (Elt F) Λ₀ .tc) α}
    {rest : Prog (TpuEff nD τ sig (Elt F) Λ₀ .tc) α}
    (hp : ∀ h, ∃ w1 w2 w3 w4, p h = .op (TpuEff.waitDma2 (p := .tc) (recvS j) cM (slot j) w1 w2) fun _ => .op (TpuEff.waitDma2 (p := .tc) (sendS j) (slot j) cM w3 w4) fun _ => rest)
    (W : Waits sig Unit) {Q : α → sProp 𝕄} :
    iprop(records m K ∗ owes (c : Thread nD τ) 0 W
        ∗ peer c j iprop(cred (tallyAt (recvCell c j) () N) ∗ cred (tallyAt (sendCell c j) () N))
        ∗ atPos ER (recvCell c j) 0 ∅ 0 ∗ atPos ER (sendCell c j) 0 ∅ 0
        ∗ self c j iprop(∃ X, owns (c : Thread nD τ) (slot j) fullShare X))
      ⊢ iprop((∀ W' X, iprop(⌜j ≠ c → X = total m j⌝ ∗ owes (c : Thread nD τ) 0 W' ∗ owns (c : Thread nD τ) (slot j) fullShare X
              ∗ peer c j (sharePts m c j) ∗ semVal (recvCell c j) 0 ∗ semVal (sendCell c j) 0)
            -∗ wp frame (wpE (defs₀ (F := F)) 𝒱₀ (c : Thread nD τ) none) Set.univ rest Q)
          -∗ wp frame (wpE (defs₀ (F := F)) 𝒱₀ (c : Thread nD τ) none) Set.univ (if h : b then p h else rest) Q) := by
  by_cases hj : j = c
  · rw [dif_neg fun h => hb.mp h hj, peer_eq hj, self_eq hj, peer_eq hj]
    have hd1 : ∀ r, 0 ≤ r → (sched (F := F) m).duties (recvCell c j) r = ∅ := fun r _ => by
      rcases Nat.eq_zero_or_pos r with rfl | h
      · rw [duties_recv, if_pos hj]
      · exact duties_later m _ r h
    have hd2 : ∀ r, 0 ≤ r → (sched (F := F) m).duties (sendCell c j) r = ∅ := fun r _ => by
      rcases Nat.eq_zero_or_pos r with rfl | h
      · rw [duties_send, if_pos hj]
      · exact duties_later m _ r h
    iintro ⟨#HR, HO, -, Ha1, Ha2, ⟨%X, Hs⟩⟩ Hk
    imod (Rounds.cell_close ER (sched m) (Set.mem_univ (K (c, iRecv j))) (fun h => h) (R := 0) hd1) $$ [Ha1] with Hz1
    · isplitr; · iapply (inv_at m K (c, iRecv j)); iexact HR
      iexact Ha1
    imod (Rounds.cell_close ER (sched m) (Set.mem_univ (K (c, iSend j))) (fun h => h) (R := 0) hd2) $$ [Ha2] with Hz2
    · isplitr; · iapply (inv_at m K (c, iSend j)); iexact HR
      iexact Ha2
    iapply Hk $$ %W %X
    isplitr; · ipureintro; exact fun h => absurd hj h
    isplitl [HO]; · iexact HO
    isplitl [Hs]; · iexact Hs
    isplitr; · iempintro
    isplitl [Hz1]; · iexact Hz1
    iexact Hz2
  · obtain ⟨w1, w2, w3, w4, hp⟩ := hp (hb.mpr hj)
    rw [dif_pos (hb.mpr hj), hp]
    simp only [peer_ne hj, self_ne hj]
    iintro ⟨#HR, HO, ⟨Hc1, Hc2⟩, Ha1, Ha2, -⟩ Hk
    iapply (Rounds.wp_wait_rest_token 𝒱₀ ER (sched m) (c : Thread nD τ) none (κ := K (c, iRecv j)) (sm := .dma (recvS j))
      (wpE_waitDma2_eq 𝒱₀ (c : Thread nD τ) none Set.univ (dst := slot j)) (Set.mem_univ _) () (O := 0) (W := W) (R := 0) (m := 0) (T := ∅)
      ((Nat.zero_add _).trans ((slot_credit j).trans (expect_recv m c j hj).symm))) $$ [Hc1 HO Ha1]
    · isplitr; · iapply (inv_at m K (c, iRecv j)); iexact HR
      isplitl [Hc1]; · rw [slot_credit j]; iexact Hc1
      isplitl [HO]; · iexact HO
      isplitr; · rw [MayWait_zero]; iempintro
      iexact Ha1
    iintro ⟨HO, Ha1, -, Hp⟩
    ihave Hs := (Entails.of_eq (rest_recv m c j hj)) $$ Hp
    iapply (Rounds.wp_wait_rest_token 𝒱₀ ER (sched m) (c : Thread nD τ) none (κ := K (c, iSend j)) (sm := .dma (sendS j))
      (wpE_waitDma2_eq 𝒱₀ (c : Thread nD τ) none Set.univ (dst := cM)) (Set.mem_univ _) () (O := 0) (R := 0) (m := 0) (T := ∅)
      ((Nat.zero_add _).trans ((cM_credit).trans (expect_send m c j hj).symm))) $$ [Hc2 HO Ha2]
    · isplitr; · iapply (inv_at m K (c, iSend j)); iexact HR
      isplitl [Hc2]; · rw [cM_credit]; iexact Hc2
      isplitl [HO]; · iexact HO
      isplitr; · rw [MayWait_zero]; iempintro
      iexact Ha2
    iintro ⟨HO, Ha2, -, Hp⟩
    ihave Ht := (Entails.of_eq (rest_send m c j hj)) $$ Hp
    imod (Rounds.cell_close ER (sched m) (Set.mem_univ (K (c, iRecv j))) (fun h => h) (R := 0 + 1) (duties_later m _)) $$ [Ha1] with Hz1
    · isplitr; · iapply (inv_at m K (c, iRecv j)); iexact HR
      iexact Ha1
    imod (Rounds.cell_close ER (sched m) (Set.mem_univ (K (c, iSend j))) (fun h => h) (R := 0 + 1) (duties_later m _)) $$ [Ha2] with Hz2
    · isplitr; · iapply (inv_at m K (c, iSend j)); iexact HR
      iexact Ha2
    unfold recvPay
    iapply Hk $$ %_ %(total m j)
    isplitr; · ipureintro; exact fun _ => rfl
    isplitl [HO]; · iexact HO
    isplitl [Hs]; · iexact Hs
    isplitl [Ht]; · iexact Ht
    isplitl [Hz1]; · iexact Hz1
    iexact Hz2

/-- The load of slot `j`: what is loaded, its unit axis dropped, is what the slot holds. -/
theorem wp_load_slot {α : Type} {off : Fin 3 → ℕ} (hoff : off = ![j.val, 0, 0]) {inb : ∀ a : Fin S4x1x1024.rank, off a + S1x1x1024.size a ≤ S4x1x1024.size a}
    {hl : rM.view.LoadsAt (Rect.unit (s := S4x1x1024) off S1x1x1024.size inb).toLoadRect}
    {k : Vec F S1x1x1024 .f32 → Prog (TpuEff nD τ sig (Elt F) Λ₀ .tc) α} {X : Vec F S1x1024 .f32} {Q : α → sProp 𝕄} :
    (owns (c : Thread nD τ) (slot j) fullShare X : sProp 𝕄)
      ⊢ iprop((∀ v, iprop(⌜shapeCast S1x1024 v shapeCasts_S1x1x1024_S1x1024 = X⌝ ∗ owns (c : Thread nD τ) (slot j) fullShare X)
            -∗ wp frame (wpE (defs₀ (F := F)) 𝒱₀ (c : Thread nD τ) none) Set.univ (k v) Q)
          -∗ wp frame (wpE (defs₀ (F := F)) 𝒱₀ (c : Thread nD τ) none) Set.univ (.op (.load rM (Rect.unit (s := S4x1x1024) off S1x1x1024.size inb).toLoadRect hl) k) Q) := by
  subst hoff
  unfold owns
  iintro ⟨%f, %hf, H⟩ Hk
  iapply (wp_load 𝒱₀ (c : Thread nD τ) none Set.univ (m := rM) (S := (slot j).view.set) (((View.set_reshape _ _).trans (View.set_slice _ _)).symm).le) $$ H
  iintro H
  iapply Hk $$ %_
  isplitr; · ipureintro; exact hf
  iexists f
  isplitr; · ipureintro; exact hf
  iexact H

end Steps

end Cert.RowProduct

end
-- ==== Proof.Result.lean ====
/-
The values of the kernel's last steps: the totals a device sends, and the block it leaves.
-/
module

public import proofs.«01_k».proof.Proof.Steps
public import Idealize.ShloMosaic.Lib.Pipeline.Value

@[expose] public section

set_option maxRecDepth 16384

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The totals -/

omit [FloatOps F] in
/-- Where one row of the first two buffers is read. -/
theorem row_idx (r : ℕ) (hr : r < 4096) (inb : ∀ a : Fin S4096x1024.rank, (![r, 0] : Fin 2 → ℕ) a + S1x1024.size a ≤ S4096x1024.size a) (x : S1x1024.Idx) :
    (Rect.unit (s := S4096x1024) ![r, 0] S1x1024.size inb).toLoadRect.idx x = atRow ⟨r, hr⟩ x := by
  funext a
  apply Fin.ext
  revert a
  refine Fin.forall_fin_two.mpr ⟨?_, ?_⟩
  · have h : (x 0).val < 1 := (x 0).isLt
    show r + 1 * (x 0).val = r
    omega
  · show 0 + 1 * (x 1).val = (x 1).val
    omega

omit [FloatOps F] in
/-- A load of all of the first two buffers reads each index at itself. -/
theorem whole_idx (inb : ∀ a : Fin S4096x1024.rank, (![0, 0] : Fin 2 → ℕ) a + S4096x1024.size a ≤ S4096x1024.size a) (x : S4096x1024.Idx) :
    (Rect.unit (s := S4096x1024) ![0, 0] S4096x1024.size inb).toLoadRect.idx x = x := by
  funext a
  apply Fin.ext
  revert a
  refine Fin.forall_fin_two.mpr ⟨?_, ?_⟩
  · show 0 + 1 * (x 0).val = (x 0).val
    omega
  · show 0 + 1 * (x 1).val = (x 1).val
    omega

/-- The contents after one more step. -/
theorem scan_doubled (X : Vec F S4096x1024 .f32) (k s : ℕ) (hs : s = 2 ^ k) : scanStep s (doubled X k) = doubled X (k + 1) := by
  rw [hs]; rfl

/-- The payload of the totals' store is the product of the two rows. -/
theorem total_payload (u v : Vec F S1x1024 .f32) : k0_pay20 u v = mulf (F := F) (φ := .f32) u v := by
  unfold k0_pay20
  dsimp only
  rw [shapeCast_shapeCast]

/-- The store of the totals, over anything, leaves the totals. -/
theorem total_stored (c : Dev nD) {i1 i2} (C : Vec F S1x1024 .f32) (i : S1x1024.Idx) :
    total m c i = if hin : ∀ a, (![0, 0] : Fin 2 → ℕ) a ≤ (i a).val ∧ (i a).val < (![0, 0] : Fin 2 → ℕ) a + S1x1024.size a then
      k0_pay20 (fun x => doubled (xblk m c) 11 ((Rect.unit (s := S4096x1024) ![2047, 0] S1x1024.size i1).toLoadRect.idx x))
        (fun x => doubled (xblk m c) 11 ((Rect.unit (s := S4096x1024) ![4095, 0] S1x1024.size i2).toLoadRect.idx x))
        (fun a => ⟨(i a).val - (![0, 0] : Fin 2 → ℕ) a, by have := hin a; show _ < S1x1024.size a; omega⟩) else C i := by
  rw [dif_pos (Fin.forall_fin_two.mpr ⟨⟨Nat.zero_le _, by have := (i 0).isLt; show _ < 0 + 1; exact this⟩, ⟨Nat.zero_le _, by have := (i 1).isLt; show _ < 0 + 1024; exact this⟩⟩),
    total_payload]
  unfold mulf total
  simp only [row_idx 2047 (by decide), row_idx 4095 (by decide)]
  rfl

/-! ## The block that is left -/

/-- The totals of device `j` if it comes before device `c`, ones if not. -/
def factor (c j : Dev nD) : Vec F S1x1024 .f32 :=
  fun i => if j.val < c.val then total m j i else FloatOps.ofBits (φ := .f32) 0x3F800000#32

/-- The product of the totals of the devices before `c`. -/
def prefactor (c : Dev nD) : Vec F S1x1024 .f32 := fun i =>
  FloatOps.mulf (φ := .f32) (FloatOps.mulf (φ := .f32) (FloatOps.mulf (φ := .f32) (FloatOps.mulf (φ := .f32)
    (FloatOps.ofBits (φ := .f32) 0x3F800000#32) (factor m c 0 i)) (factor m c 1 i)) (factor m c 2 i)) (factor m c 3 i)

/-- The index in the single row of totals of `i`'s column. -/
def colOf (i : S4096x1024.Idx) : S1x1024.Idx := fun a => match a with | ⟨0, _⟩ => (0 : Fin 1) | ⟨1, _⟩ => i 1

/-- The block that device `c` leaves. -/
def outAt (c : Dev nD) : Vec F S4096x1024 .f32 :=
  fun i => FloatOps.mulf (φ := .f32) (doubled (xblk m c) 12 i) (prefactor m c (colOf i))

/-- The device's number as the kernel computes it. -/
abbrev myWord (c : Dev nD) : BitVec 32 := Scalar.remsi (Scalar.divsi (Dev.word c) 1#32) 4#32

theorem myWord_gt (c j : Dev nD) : (Scalar.cmpi .sgt (myWord c) (BitVec.ofNat 32 j.val) = 1) ↔ j.val < c.val := by revert c j; decide

/-- The kernel's choice between a slot and ones is the factor. -/
theorem pick_eq (c j : Dev nD) {X t : Vec F S1x1024 .f32} (hX : j ≠ c → X = total m j) (ht : t = X) (w : BitVec 32) (hw : w = BitVec.ofNat 32 j.val) :
    (Scalar.select (Scalar.cmpi .sgt (myWord c) w) t (broadcast S1x1024 (FloatOps.ofBits (F := F) .f32 0x3F800000#32)) : Vec F S1x1024 .f32) = factor m c j := by
  subst hw ht
  unfold Scalar.select factor
  by_cases h : j.val < c.val
  · rw [if_pos ((myWord_gt c j).mpr h), hX fun e => by rw [e] at h; exact Nat.lt_irrefl _ h]
    funext i; rw [if_pos h]
  · rw [if_neg fun e => h ((myWord_gt c j).mp e)]
    funext i; rw [if_neg h]; rfl

/-- The payload of the last store is the block. -/
theorem out_payload (c : Dev nD) {X0 X1 X2 X3 : Vec F S1x1024 .f32} {v0 v1 v2 v3 : Vec F S1x1x1024 .f32}
    (h0 : (0 : Dev nD) ≠ c → X0 = total m 0) (h1 : (1 : Dev nD) ≠ c → X1 = total m 1) (h2 : (2 : Dev nD) ≠ c → X2 = total m 2) (h3 : (3 : Dev nD) ≠ c → X3 = total m 3)
    (e0 : shapeCast S1x1024 v0 shapeCasts_S1x1x1024_S1x1024 = X0) (e1 : shapeCast S1x1024 v1 shapeCasts_S1x1x1024_S1x1024 = X1)
    (e2 : shapeCast S1x1024 v2 shapeCasts_S1x1x1024_S1x1024 = X2) (e3 : shapeCast S1x1024 v3 shapeCasts_S1x1x1024_S1x1024 = X3)
    {v : Vec F S4096x1024 .f32} (hv : v = doubled (xblk m c) 12) :
    k0_pay1 (myWord c) (k0_pay22 (myWord c) v0) (Scalar.cmpi .sgt (myWord c) 1#32) v1 v2 v3 v = outAt m c := by
  subst hv
  unfold k0_pay1 k0_pay22
  dsimp only
  rw [pick_eq m c 0 h0 e0 0#32 rfl, pick_eq m c 1 h1 e1 1#32 rfl, pick_eq m c 2 h2 e2 2#32 rfl, pick_eq m c 3 h3 e3 3#32 rfl, shapeCast_self]
  funext i
  show FloatOps.mulf (φ := .f32) (doubled (xblk m c) 12 i) (broadcastTo S4096x1024 _ broadcasts_S1x1024_S4096x1024 i) = _
  rw [broadcastTo_apply _ _ i (colOf i) (Fin.forall_fin_two.mpr ⟨rfl, rfl⟩)]
  rfl

/-- The last store leaves the block. -/
theorem out_stored (c : Dev nD) {w : Vec F S4096x1024 .f32} (hw : w = outAt m c) (X : Vec F S4096x1024 .f32) (i : S4096x1024.Idx) :
    outAt m c i = if hin : ∀ a, (![0, 0] : Fin 2 → ℕ) a ≤ (i a).val ∧ (i a).val < (![0, 0] : Fin 2 → ℕ) a + S4096x1024.size a then
      w (fun a => ⟨(i a).val - (![0, 0] : Fin 2 → ℕ) a, by have := hin a; show _ < S4096x1024.size a; omega⟩) else X i := by
  rw [dif_pos (Fin.forall_fin_two.mpr ⟨⟨Nat.zero_le _, by have := (i 0).isLt; show _ < 0 + 4096; exact this⟩, ⟨Nat.zero_le _, by have := (i 1).isLt; show _ < 0 + 1024; exact this⟩⟩), hw]
  exact congrArg (outAt m c) (funext (Fin.forall_fin_two.mpr ⟨rfl, rfl⟩))

end Cert.RowProduct

end
-- ==== Proof.Body.lean ====
/-
The body of the kernel on a device `c`, from what it is handed at its start to what it leaves.
-/
module

public import proofs.«01_k».proof.Proof.Result

@[expose] public section

set_option maxRecDepth 16384

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CellIx → ℕ) (c : Dev nD)

/-- What device `c` needs for device `j`: the three tokens of what it does for `j`, its positions in the two cells that it keeps for `j`, slot `j`
    of its receive buffer, and, for another device, the credit of the wait for `j`'s totals. -/
def duties (j : Dev nD) : sProp 𝕄 :=
  iprop(dutyTok ER (barCell j) 0 c ∗ dutyTok ER (sendCell c j) 0 0 ∗ dutyTok ER (recvCell j c) 0 0
    ∗ atPos ER (recvCell c j) 0 ∅ 0 ∗ atPos ER (sendCell c j) 0 ∅ 0 ∗ peer c j (cred (tallyAt (recvCell c j) () N)))

/-- Slot `j` of device `c`'s receive buffer, at anything. -/
def slotAny (j : Dev nD) : sProp 𝕄 := iprop(∃ X, owns (c : Thread nD τ) (slot j) fullShare X)

/-- What the body starts from. -/
def bodyPre (W : Waits sig Unit) : sProp 𝕄 :=
  iprop(records m K ∗ levAts L lv ∗ owes (c : Thread nD τ) (owed c acts) W
    ∗ dutyTok ER (copyCell c) 0 0 ∗ atPos ER (copyCell c) 0 ∅ 0 ∗ atPos ER (barCell c) 0 ∅ 0 ∗ cred (tallyAt (barCell c) () 3)
    ∗ (bigSep Finset.univ fun j => duties c j) ∗ (bigSep Finset.univ fun j => slotAny (F := F) c j)
    ∗ owns (c : Thread nD τ) xM fullShare (xblk m c)
    ∗ (∃ X, owns (c : Thread nD τ) oM fullShare X) ∗ (∃ X, owns (c : Thread nD τ) pM fullShare X) ∗ ∃ X, owns (c : Thread nD τ) cM fullShare X)

/-- What it leaves: the result, its block untouched, the buffers, and every semaphore at zero. -/
def bodyPost : sProp 𝕄 :=
  iprop((∃ W, owes (c : Thread nD τ) 0 W)
    ∗ semVal (barCell c) 0 ∗ semVal (copyCell c) 0 ∗ (bigSep Finset.univ fun j => iprop(semVal (recvCell c j) 0 ∗ semVal (sendCell c j) 0))
    ∗ (bigSep Finset.univ fun j => slotAny (F := F) c j)
    ∗ owns (c : Thread nD τ) xM fullShare (xblk m c) ∗ owns (c : Thread nD τ) oM fullShare (outAt m c)
    ∗ (∃ X, owns (c : Thread nD τ) pM fullShare X) ∗ ∃ X, owns (c : Thread nD τ) cM fullShare X)

omit [FloatOps F] in
/-- A whole buffer held at known contents is its points-to. -/
theorem owns_whole (b : Ref sig .tc) (q : PosShare TreeShare) (X : b.ty.Contents (Elt F)) :
    (owns (c : Thread nD τ) (Memref.whole b) q X : sProp 𝕄) ⊣⊢ (((c : Thread nD τ).loc b) ↦{q} X) := by
  unfold owns
  simp only [Memref.view_whole, View.read_whole, View.set_whole]
  refine ⟨?_, ?_⟩
  · iintro ⟨%f, %hf, H⟩
    rw [← hf]; iexact H
  · iintro H
    iexists X
    isplitr; · ipureintro; rfl
    iexact H

/-- The totals buffer is the four shares of it. -/
theorem totals_shares : (owns (c : Thread nD τ) cM fullShare (total m c) : sProp 𝕄) ⊣⊢ bigSep Finset.univ fun j => sharePts m c j := by
  have hq (q : PosShare TreeShare) := owns_whole (F := F) c cc0_scratch1 q (total m c)
  have hl : (((c : Thread nD τ).loc cc0_scratch1) ↦{fullShare} (total m c : cc0_scratch1.ty.Contents (Elt F)) : sProp 𝕄)
      = bigSep Finset.univ fun j : Dev nD => (((c : Thread nD τ).loc cc0_scratch1) ↦{ShareLeaves.leaf 2 fullShare j} (total m c)) :=
    ShareLeaves.pointsTo_leaves Finset.univ _ 2 fullShare
  unfold sharePts
  exact ⟨((hq _).1.trans (Entails.of_eq hl)).trans (bigSep_mono fun j _ => (hq _).2),
    (bigSep_mono fun j _ => (hq _).1).trans ((Entails.of_eq hl.symm).trans (hq _).2)⟩

theorem cond_signal (c : Dev nD) : ((k0_cond1 c = 1#1) ↔ (0 : Dev nD) ≠ c) ∧ ((k0_cond2 c = 1#1) ↔ (1 : Dev nD) ≠ c)
    ∧ ((k0_cond3 c = 1#1) ↔ (2 : Dev nD) ≠ c) ∧ ((k0_cond4 c = 1#1) ↔ (3 : Dev nD) ≠ c) := by revert c; decide
theorem cond_send (c : Dev nD) : ((k0_cond5 c = 1#1) ↔ (0 : Dev nD) ≠ c) ∧ ((k0_cond6 c = 1#1) ↔ (1 : Dev nD) ≠ c)
    ∧ ((k0_cond7 c = 1#1) ↔ (2 : Dev nD) ≠ c) ∧ ((k0_cond8 c = 1#1) ↔ (3 : Dev nD) ≠ c) := by revert c; decide
theorem cond_wait (c j : Dev nD) :
    (Scalar.cmpi .ne (Scalar.extui (Scalar.cmpi .ne (myWord c) (BitVec.ofNat 32 j.val)) : BitVec 32) 0#32 = 1#1) ↔ j ≠ c := by revert c j; decide

set_option maxHeartbeats 1000000 in
theorem sound_body (W : Waits sig Unit) (Kt : PUnit → sProp 𝕄) :
    iprop(bodyPre m K c W ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold bodyPre duties
  simp only [bigSep_four]
  iintro ⟨⟨#HR, #Hlev, HO, HtC, HaC, HaB, HcB, ⟨⟨Htb0, Hts0, Htr0, Har0, Has0, Hcr0⟩, ⟨Htb1, Hts1, Htr1, Har1, Has1, Hcr1⟩,
    ⟨Htb2, Hts2, Htr2, Har2, Has2, Hcr2⟩, ⟨Htb3, Hts3, Htr3, Har3, Has3, Hcr3⟩⟩, ⟨Hs0, Hs1, Hs2, Hs3⟩, Hx, Ho, ⟨%P0, Hp⟩, ⟨%C0, Hc⟩⟩, Hk⟩
  -- the first part: the copy, the signals, the barrier, the copy's wait, the start of the first step
  rw [wp_bind]
  unfold k0_part1_skel
  simp only [semSignalWord, semWaitWord, Prog.lift, Prog.bind_op, Prog.bind_ret, Prog.pure_eq_ret, wp_deviceId]
  iapply (wp_copy_block m K c) $$ [Hx HtC Ho]
  · isplitr; · iexact HR
    isplitl [Hx]; · iexact Hx
    isplitl [HtC]; · iexact HtC
    iexact Ho
  iintro HcC
  unfold slotAny
  ihave Hs0 := (peer_self (c := c) (j := 0) _) $$ Hs0; icases Hs0 with ⟨Hg0, Hs0⟩
  ihave Htb0 := (peer_intro (c := c) (j := 0) _) $$ Htb0
  iapply (wp_signal_peer m K c 0 (cond_signal c).1 (fun h => ⟨_, Fin.ext k0_dev1_eq, rfl⟩) [.inl 1, .inl 2, .inl 3, .inr 0, .inr 1, .inr 2, .inr 3] W) $$ [HO Htb0 Hg0]
  · isplitr; · iexact HR
    isplitl [HO]; · iexact HO
    isplitl [Htb0]; · iexact Htb0
    iexact Hg0
  iintro HO
  ihave Hs1 := (peer_self (c := c) (j := 1) _) $$ Hs1; icases Hs1 with ⟨Hg1, Hs1⟩
  ihave Htb1 := (peer_intro (c := c) (j := 1) _) $$ Htb1
  iapply (wp_signal_peer m K c 1 (cond_signal c).2.1 (fun h => ⟨_, Fin.ext k0_dev2_eq, rfl⟩) [.inl 2, .inl 3, .inr 0, .inr 1, .inr 2, .inr 3] W) $$ [HO Htb1 Hg1]
  · isplitr; · iexact HR
    isplitl [HO]; · iexact HO
    isplitl [Htb1]; · iexact Htb1
    iexact Hg1
  iintro HO
  ihave Hs2 := (peer_self (c := c) (j := 2) _) $$ Hs2; icases Hs2 with ⟨Hg2, Hs2⟩
  ihave Htb2 := (peer_intro (c := c) (j := 2) _) $$ Htb2
  iapply (wp_signal_peer m K c 2 (cond_signal c).2.2.1 (fun h => ⟨_, Fin.ext k0_dev3_eq, rfl⟩) [.inl 3, .inr 0, .inr 1, .inr 2, .inr 3] W) $$ [HO Htb2 Hg2]
  · isplitr; · iexact HR
    isplitl [HO]; · iexact HO
    isplitl [Htb2]; · iexact Htb2
    iexact Hg2
  iintro HO
  ihave Hs3 := (peer_self (c := c) (j := 3) _) $$ Hs3; icases Hs3 with ⟨Hg3, Hs3⟩
  ihave Htb3 := (peer_intro (c := c) (j := 3) _) $$ Htb3
  iapply (wp_signal_peer m K c 3 (cond_signal c).2.2.2 (fun h => ⟨_, Fin.ext k0_dev4_eq, rfl⟩) sends W) $$ [HO Htb3 Hg3]
  · isplitr; · iexact HR
    isplitl [HO]; · iexact HO
    isplitl [Htb3]; · iexact Htb3
    iexact Hg3
  iintro HO
  iapply (wp_wait_bar m K c W) $$ [HO HcB HaB]
  · isplitr; · iexact HR
    isplitr; · iexact Hlev
    isplitl [HO]; · iexact HO
    isplitl [HcB]; · iexact HcB
    iexact HaB
  iintro %W1 ⟨HO, HzB, Hg⟩
  simp only [bigSep_four]
  icases Hg with ⟨Hg0, Hg1, Hg2, Hg3⟩
  iapply (wp_wait_copy m K c sends W1) $$ [HO HcC HaC]
  · isplitr; · iexact HR
    isplitr; · iexact Hlev
    isplitl [HO]; · iexact HO
    isplitl [HcC]; · iexact HcC
    iexact HaC
  iintro %W2 ⟨HO, HzC, Ho, Hx⟩
  rw [← wp_bind]
  simp only [Prog.lift, Prog.bind_op, Prog.bind_ret, Prog.pure_eq_ret]
  -- eleven steps, the buffers changing places
  unfold k0_part2_skel
  simp only [Prog.lift, Prog.bind_op, Prog.bind_ret, Prog.pure_eq_ret]
  iapply (wp_scan 𝒱₀ c 1 4095 rfl (fun v => by simp only [k0_pay2, shapeCast_self]) (fun u v => by simp only [k0_pay3, shapeCast_self])) $$ [Ho Hp]
  · isplitl [Ho]; · iexact Ho
    iexact Hp
  iintro ⟨Ho, Hp⟩
  rw [show scanStep 1 (xblk m c) = doubled (xblk m c) 1 from scan_doubled (xblk m c) 0 1 rfl]
  iapply (wp_scan 𝒱₀ c 2 4094 rfl (fun v => rfl) (fun u v => by simp only [k0_pay4])) $$ [Ho Hp]
  · isplitl [Hp]; · iexact Hp
    iexact Ho
  iintro ⟨Hp, Ho⟩
  rw [scan_doubled (xblk m c) 1 2 rfl]
  iapply (wp_scan 𝒱₀ c 4 4092 rfl (fun v => by simp only [k0_pay5, shapeCast_self]) (fun u v => by simp only [k0_pay6, shapeCast_self])) $$ [Ho Hp]
  · isplitl [Ho]; · iexact Ho
    iexact Hp
  iintro ⟨Ho, Hp⟩
  rw [scan_doubled (xblk m c) 2 4 rfl]
  unfold k0_part3_skel
  simp only [Prog.lift, Prog.bind_op, Prog.bind_ret, Prog.pure_eq_ret]
  iapply (wp_scan 𝒱₀ c 8 4088 rfl (fun v => rfl) (fun u v => by simp only [k0_pay7])) $$ [Ho Hp]
  · isplitl [Hp]; · iexact Hp
    iexact Ho
  iintro ⟨Hp, Ho⟩
  rw [scan_doubled (xblk m c) 3 8 rfl]
  iapply (wp_scan 𝒱₀ c 16 4080 rfl (fun v => by simp only [k0_pay8, shapeCast_self]) (fun u v => by simp only [k0_pay9, shapeCast_self])) $$ [Ho Hp]
  · isplitl [Ho]; · iexact Ho
    iexact Hp
  iintro ⟨Ho, Hp⟩
  rw [scan_doubled (xblk m c) 4 16 rfl]
  iapply (wp_scan 𝒱₀ c 32 4064 rfl (fun v => rfl) (fun u v => by simp only [k0_pay10])) $$ [Ho Hp]
  · isplitl [Hp]; · iexact Hp
    iexact Ho
  iintro ⟨Hp, Ho⟩
  rw [scan_doubled (xblk m c) 5 32 rfl]
  unfold k0_part4_skel
  simp only [Prog.lift, Prog.bind_op, Prog.bind_ret, Prog.pure_eq_ret]
  iapply (wp_scan 𝒱₀ c 64 4032 rfl (fun v => by simp only [k0_pay11, shapeCast_self]) (fun u v => by simp only [k0_pay13, k0_pay12, shapeCast_self])) $$ [Ho Hp]
  · isplitl [Ho]; · iexact Ho
    iexact Hp
  iintro ⟨Ho, Hp⟩
  rw [scan_doubled (xblk m c) 6 64 rfl]
  iapply (wp_scan 𝒱₀ c 128 3968 rfl (fun v => rfl) (fun u v => by simp only [k0_pay14])) $$ [Ho Hp]
  · isplitl [Hp]; · iexact Hp
    iexact Ho
  iintro ⟨Hp, Ho⟩
  rw [scan_doubled (xblk m c) 7 128 rfl]
  iapply (wp_scan 𝒱₀ c 256 3840 rfl (fun v => by simp only [k0_pay15, shapeCast_self]) (fun u v => by simp only [k0_pay16, shapeCast_self])) $$ [Ho Hp]
  · isplitl [Ho]; · iexact Ho
    iexact Hp
  iintro ⟨Ho, Hp⟩
  rw [scan_doubled (xblk m c) 8 256 rfl]
  unfold k0_part5_skel
  simp only [Prog.lift, Prog.bind_op, Prog.bind_ret, Prog.pure_eq_ret]
  iapply (wp_scan 𝒱₀ c 512 3584 rfl (fun v => rfl) (fun u v => by simp only [k0_pay17])) $$ [Ho Hp]
  · isplitl [Hp]; · iexact Hp
    iexact Ho
  iintro ⟨Hp, Ho⟩
  rw [scan_doubled (xblk m c) 9 512 rfl]
  iapply (wp_scan 𝒱₀ c 1024 3072 rfl (fun v => by simp only [k0_pay18, shapeCast_self]) (fun u v => by simp only [k0_pay19, shapeCast_self])) $$ [Ho Hp]
  · isplitl [Ho]; · iexact Ho
    iexact Hp
  iintro ⟨Ho, Hp⟩
  rw [scan_doubled (xblk m c) 10 1024 rfl]
  -- the totals into their buffer, in four shares
  iapply (wp_load_at 𝒱₀ c) $$ Hp; iintro Hp
  iapply (wp_load_at 𝒱₀ c) $$ Hp; iintro Hp
  iapply (wp_load_at 𝒱₀ c) $$ Hc; iintro Hc
  iapply (wp_store_at 𝒱₀ c (total m c) (total_stored m c C0)) $$ Hc; iintro Hc
  ihave Hc := (totals_shares m c).1 $$ Hc
  simp only [bigSep_four]
  icases Hc with ⟨Hc0, Hc1, Hc2, Hc3⟩
  rw [wp_bind]
  ihave Hc0 := (peer_self (c := c) (j := 0) _) $$ Hc0; icases Hc0 with ⟨Hl0, Hc0⟩
  ihave Htt0 := (peer_intro (c := c) (j := 0) iprop(dutyTok ER (sendCell c 0) 0 0 ∗ dutyTok ER (recvCell 0 c) 0 0)) $$ [Hts0 Htr0]
  · isplitl [Hts0]; · iexact Hts0
    iexact Htr0
  iapply (wp_send_peer m K c 0 (cond_send c).1 (fun h => ⟨_, _, _, _, _, _, _, _, _, Fin.ext k0_dev5_eq, k0_off1_eq c, k0_off2_eq c, rfl⟩) [.inr 1, .inr 2, .inr 3] W2) $$ [HO Htt0 Hg0 Hl0]
  · isplitr; · iexact HR
    isplitl [HO]; · iexact HO
    isplitl [Htt0]; · iexact Htt0
    isplitl [Hg0]; · iexact Hg0
    iexact Hl0
  iintro ⟨HO, Hcs0⟩
  rw [← wp_bind]
  unfold k0_part6_skel
  simp only [Prog.lift, Prog.bind_op, Prog.bind_ret, Prog.pure_eq_ret]
  rw [wp_bind]
  ihave Hc1 := (peer_self (c := c) (j := 1) _) $$ Hc1; icases Hc1 with ⟨Hl1, Hc1⟩
  ihave Htt1 := (peer_intro (c := c) (j := 1) iprop(dutyTok ER (sendCell c 1) 0 0 ∗ dutyTok ER (recvCell 1 c) 0 0)) $$ [Hts1 Htr1]
  · isplitl [Hts1]; · iexact Hts1
    iexact Htr1
  iapply (wp_send_peer m K c 1 (cond_send c).2.1 (fun h => ⟨_, _, _, _, _, _, _, _, _, Fin.ext k0_dev6_eq, k0_off3_eq c, k0_off4_eq c, rfl⟩) [.inr 2, .inr 3] W2) $$ [HO Htt1 Hg1 Hl1]
  · isplitr; · iexact HR
    isplitl [HO]; · iexact HO
    isplitl [Htt1]; · iexact Htt1
    isplitl [Hg1]; · iexact Hg1
    iexact Hl1
  iintro ⟨HO, Hcs1⟩
  ihave Hc2 := (peer_self (c := c) (j := 2) _) $$ Hc2; icases Hc2 with ⟨Hl2, Hc2⟩
  ihave Htt2 := (peer_intro (c := c) (j := 2) iprop(dutyTok ER (sendCell c 2) 0 0 ∗ dutyTok ER (recvCell 2 c) 0 0)) $$ [Hts2 Htr2]
  · isplitl [Hts2]; · iexact Hts2
    iexact Htr2
  iapply (wp_send_peer m K c 2 (cond_send c).2.2.1 (fun h => ⟨_, _, _, _, _, _, _, _, _, Fin.ext k0_dev7_eq, k0_off5_eq c, k0_off6_eq c, rfl⟩) [.inr 3] W2) $$ [HO Htt2 Hg2 Hl2]
  · isplitr; · iexact HR
    isplitl [HO]; · iexact HO
    isplitl [Htt2]; · iexact Htt2
    isplitl [Hg2]; · iexact Hg2
    iexact Hl2
  iintro ⟨HO, Hcs2⟩
  ihave Hc3 := (peer_self (c := c) (j := 3) _) $$ Hc3; icases Hc3 with ⟨Hl3, Hc3⟩
  ihave Htt3 := (peer_intro (c := c) (j := 3) iprop(dutyTok ER (sendCell c 3) 0 0 ∗ dutyTok ER (recvCell 3 c) 0 0)) $$ [Hts3 Htr3]
  · isplitl [Hts3]; · iexact Hts3
    iexact Htr3
  iapply (wp_send_peer m K c 3 (cond_send c).2.2.2 (fun h => ⟨_, _, _, _, _, _, _, _, _, Fin.ext k0_dev8_eq, k0_off7_eq c, k0_off8_eq c, rfl⟩) [] W2) $$ [HO Htt3 Hg3 Hl3]
  · isplitr; · iexact HR
    isplitl [HO]; · iexact HO
    isplitl [Htt3]; · iexact Htt3
    isplitl [Hg3]; · iexact Hg3
    iexact Hl3
  iintro ⟨HO, Hcs3⟩
  iapply (wp_scan 𝒱₀ c 2048 2048 rfl (fun v => rfl) (fun u v => by simp only [k0_pay21])) $$ [Ho Hp]
  · isplitl [Hp]; · iexact Hp
    iexact Ho
  iintro ⟨Hp, Ho⟩
  rw [scan_doubled (xblk m c) 11 2048 rfl]
  iapply (wp_wait_peer m K c 0 (cond_wait c 0) (fun h => ⟨_, _, _, _, rfl⟩) W2) $$ [HO Hcr0 Hcs0 Har0 Has0 Hs0]
  · isplitr; · iexact HR
    isplitl [HO]; · iexact HO
    isplitl [Hcr0 Hcs0]
    · iapply (peer_sep (c := c) (j := 0) _ _)
      isplitl [Hcr0]; · iexact Hcr0
      iexact Hcs0
    isplitl [Har0]; · iexact Har0
    isplitl [Has0]; · iexact Has0
    iexact Hs0
  iintro %V0 %X0 ⟨%h0, HO, Hs0, Hl0, Hzr0, Hzs0⟩
  iapply (wp_load_slot c 0 rfl) $$ Hs0
  iintro %v0 ⟨%e0, Hs0⟩
  iapply (wp_wait_peer m K c 1 (cond_wait c 1) (fun h => ⟨_, _, _, _, rfl⟩) V0) $$ [HO Hcr1 Hcs1 Har1 Has1 Hs1]
  · isplitr; · iexact HR
    isplitl [HO]; · iexact HO
    isplitl [Hcr1 Hcs1]
    · iapply (peer_sep (c := c) (j := 1) _ _)
      isplitl [Hcr1]; · iexact Hcr1
      iexact Hcs1
    isplitl [Har1]; · iexact Har1
    isplitl [Has1]; · iexact Has1
    iexact Hs1
  iintro %V1 %X1 ⟨%h1, HO, Hs1, Hl1, Hzr1, Hzs1⟩
  rw [← wp_bind]
  simp only [Prog.lift, Prog.bind_op, Prog.bind_ret, Prog.pure_eq_ret]
  iapply (wp_load_slot c 1 rfl) $$ Hs1
  iintro %v1 ⟨%e1, Hs1⟩
  iapply (wp_wait_peer m K c 2 (cond_wait c 2) (fun h => ⟨_, _, _, _, rfl⟩) V1) $$ [HO Hcr2 Hcs2 Har2 Has2 Hs2]
  · isplitr; · iexact HR
    isplitl [HO]; · iexact HO
    isplitl [Hcr2 Hcs2]
    · iapply (peer_sep (c := c) (j := 2) _ _)
      isplitl [Hcr2]; · iexact Hcr2
      iexact Hcs2
    isplitl [Har2]; · iexact Har2
    isplitl [Has2]; · iexact Has2
    iexact Hs2
  iintro %V2 %X2 ⟨%h2, HO, Hs2, Hl2, Hzr2, Hzs2⟩
  iapply (wp_load_slot c 2 rfl) $$ Hs2
  iintro %v2 ⟨%e2, Hs2⟩
  iapply (wp_wait_peer m K c 3 (cond_wait c 3) (fun h => ⟨_, _, _, _, rfl⟩) V2) $$ [HO Hcr3 Hcs3 Har3 Has3 Hs3]
  · isplitr; · iexact HR
    isplitl [HO]; · iexact HO
    isplitl [Hcr3 Hcs3]
    · iapply (peer_sep (c := c) (j := 3) _ _)
      isplitl [Hcr3]; · iexact Hcr3
      iexact Hcs3
    isplitl [Har3]; · iexact Har3
    isplitl [Has3]; · iexact Has3
    iexact Hs3
  iintro %V3 %X3 ⟨%h3, HO, Hs3, Hl3, Hzr3, Hzs3⟩
  iapply (wp_load_slot c 3 rfl) $$ Hs3
  iintro %v3 ⟨%e3, Hs3⟩
  -- the result
  iapply (wp_load_at 𝒱₀ c) $$ Ho; iintro Ho
  iapply (wp_load_at 𝒱₀ c) $$ Ho; iintro Ho
  iapply (wp_store_at 𝒱₀ c (outAt m c)
    (out_stored m c (out_payload m c h0 h1 h2 h3 e0 e1 e2 e3 (funext fun x => congrArg (doubled (xblk m c) 12) (whole_idx _ x))) _)) $$ Ho; iintro Ho
  rw [wp_ret]; imodintro
  iapply Hk
  ihave Hc0 := (peer_self_join (c := c) (j := 0) _) $$ [Hl0 Hc0]
  · isplitl [Hl0] <;> iassumption
  ihave Hc1 := (peer_self_join (c := c) (j := 1) _) $$ [Hl1 Hc1]
  · isplitl [Hl1] <;> iassumption
  ihave Hc2 := (peer_self_join (c := c) (j := 2) _) $$ [Hl2 Hc2]
  · isplitl [Hl2] <;> iassumption
  ihave Hc3 := (peer_self_join (c := c) (j := 3) _) $$ [Hl3 Hc3]
  · isplitl [Hl3] <;> iassumption
  ihave Hc := (Entails.of_eq (bigSep_four fun j => sharePts m c j).symm) $$ [Hc0 Hc1 Hc2 Hc3]
  · isplitl [Hc0]; · iexact Hc0
    isplitl [Hc1]; · iexact Hc1
    isplitl [Hc2] <;> iassumption
  ihave Hc := (totals_shares m c).2 $$ Hc
  unfold bodyPost slotAny
  simp only [bigSep_four]
  isplitl [HO]; · iexists V3; iexact HO
  isplitl [HzB]; · iexact HzB
  isplitl [HzC]; · iexact HzC
  isplitl [Hzr0 Hzs0 Hzr1 Hzs1 Hzr2 Hzs2 Hzr3 Hzs3]
  · isplitl [Hzr0 Hzs0]; · isplitl [Hzr0] <;> iassumption
    isplitl [Hzr1 Hzs1]; · isplitl [Hzr1] <;> iassumption
    isplitl [Hzr2 Hzs2]; · isplitl [Hzr2] <;> iassumption
    isplitl [Hzr3] <;> iassumption
  isplitl [Hs0 Hs1 Hs2 Hs3]
  · isplitl [Hs0]; · iexists X0; iexact Hs0
    isplitl [Hs1]; · iexists X1; iexact Hs1
    isplitl [Hs2]; · iexists X2; iexact Hs2
    iexists X3; iexact Hs3
  isplitl [Hx]; · iexact Hx
  isplitl [Ho]; · iexact Ho
  isplitl [Hp]; · iexists _; iexact Hp
  iexists _; iexact Hc

end Cert.RowProduct

end
-- ==== Proof.Ghost.lean ====
/-
The ghost state of the launch: what is minted for each device, and how the devices' semaphores become the cells'
invariants that the bodies open.

The token of a duty is minted with the device that PAYS it, so nothing has to be passed on afterwards.
-/
module

public import proofs.«01_k».proof.Proof.Body

@[expose] public section

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sums over the cells of a device -/

omit [FloatOps F] in
theorem bigSep_option {A : Type} [Fintype A] [DecidableEq A] (Φ : Option A → sProp 𝕄) :
    bigSep Finset.univ Φ = iprop(Φ none ∗ bigSep Finset.univ fun a => Φ (some a)) := by
  have h : (Finset.univ : Finset (Option A)) = insert none (Finset.univ.map Function.Embedding.some) :=
    (Finset.eq_univ_iff_forall.mpr fun a => by cases a <;> simp).symm
  rw [h, bigSep_insert (by simp), bigSep_map]; rfl

omit [FloatOps F] in
/-- A fact of each of the kernel's own cells of a device: the copy's, the send and the receive cells'. -/
theorem bigSep_own (Φ : OwnIx → sProp 𝕄) :
    bigSep Finset.univ Φ = iprop(Φ none ∗ (bigSep Finset.univ fun j => Φ (some (.inl j))) ∗ bigSep Finset.univ fun j => Φ (some (.inr j))) := by
  rw [bigSep_option, bigSep_univ_sum]; rfl

omit [FloatOps F] in
/-- A fact of every cell of a device: the barrier's, the copy's, the send and the receive cells'. -/
theorem bigSep_cells (Φ : CellIx → sProp 𝕄) :
    bigSep Finset.univ Φ = iprop(Φ iBar ∗ Φ iCopy ∗ (bigSep Finset.univ fun j => Φ (iSend j)) ∗ bigSep Finset.univ fun j => Φ (iRecv j)) := by
  rw [bigSep_option, bigSep_own]

/-! ## The tokens -/

/-- The duties that a device pays: its copy's, a signal to each device, and the two ends of a transfer to each device. (Those of
    the device to itself are minted and never used.) -/
abbrev TokIx : Type := Option (Dev nD ⊕ Dev nD ⊕ Dev nD)

/-- The cell of a duty of device `c`, and the duty's name. -/
abbrev tokCell (c : Dev nD) : TokIx → Dev nD × CellIx
  | none => (c, iCopy)
  | some (.inl j) => (j, iBar)
  | some (.inr (.inl j)) => (c, iSend j)
  | some (.inr (.inr j)) => (j, iRecv c)
abbrev tokName (c : Dev nD) : TokIx → Dev nD
  | some (.inl _) => c
  | _ => 0
abbrev tokOf (ct : Dev nD × TokIx) : GSem nD τ sig × ℕ × Dev nD := (kcell (tokCell ct.1 ct.2), 0, tokName ct.1 ct.2)

theorem tokCell_injective : Function.Injective fun ct : Dev nD × TokIx => (tokCell ct.1 ct.2, tokName ct.1 ct.2) := by decide

theorem tokOf_injective : Function.Injective tokOf := fun a b h =>
  tokCell_injective (Prod.ext (kcell_injective (congrArg Prod.fst h)) (congrArg (fun x : GSem nD τ sig × ℕ × Dev nD => x.2.2) h))

def allCells : Finset (GSem nD τ sig) := Finset.univ.map ⟨kcell, kcell_injective⟩
def allToks : Finset (GSem nD τ sig × ℕ × Dev nD) := Finset.univ.map ⟨tokOf, tokOf_injective⟩

/-- The element of the two ghost libraries at the launch. -/
def u₀ : UU := (initOf (Pipeline.cells cfgs cellOf_inj) (Pipeline.launchToks cfgs cellOf_inj), initOf allCells allToks)

/-- The tokens of device `c`. -/
def toks (c : Dev nD) : sProp 𝕄 :=
  iprop(dutyTok ER (copyCell c) 0 0 ∗ (bigSep Finset.univ fun j => dutyTok ER (barCell j) 0 c)
    ∗ (bigSep Finset.univ fun j => dutyTok ER (sendCell c j) 0 0) ∗ bigSep Finset.univ fun j => dutyTok ER (recvCell j c) 0 0)

/-- What device `c` is dealt: the state of its cells at round 0, its positions, and its tokens. -/
def G (c : Dev nD) : sProp 𝕄 :=
  iprop((bigSep Finset.univ fun k : CellIx => roundState ER (sched m) (kcell (c, k)) 0)
    ∗ ((bigSep Finset.univ fun k : CellIx => atPos ER (kcell (c, k)) 0 ∅ 0) ∗ bigSep Finset.univ fun k : CellIx => reached ER (kcell (c, k)) 0) ∗ toks c)

/-- What device `c`'s body takes of it, with the cells' invariants shared by all. -/
def ghost (K : Dev nD × CellIx → ℕ) (c : Dev nD) : sProp 𝕄 :=
  iprop(records m K ∗ (bigSep Finset.univ fun k : CellIx => atPos ER (kcell (c, k)) 0 ∅ 0) ∗ toks c)
def G' (c : Dev nD) : sProp 𝕄 := iprop(∃ K, ghost m K c)

/-- The launch element is what the devices are dealt. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by rw [bigSep_option, bigSep_univ_sum, bigSep_univ_sum]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

omit [FloatOps F] in
/-- The kernel's own semaphores of a device: the copy's, the send and the receive ones. -/
theorem ownSems0_eq (c : Dev nD) : (Pipeline.ownSems0 (Ix := Unit) (Name := ℕ) (U := UU) (Lvl := ℕ) (Val := Elt F) (τ := τ) osem c : sProp 𝕄)
    = bigSep Finset.univ fun k : OwnIx => semVal (kcell (c, some k)) 0 := rfl
omit [FloatOps F] in
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    iprop(unscopedSems0 c ∗ Pipeline.ownSems0 (Ix := Unit) (Name := ℕ) (U := UU) (Lvl := ℕ) (Val := Elt F) (τ := τ) osem c)
      = (bigSep Finset.univ fun k : CellIx => semVal (kcell (c, k)) 0 : sProp 𝕄) := by
  rw [ownSems0_eq, unscopedSems0_eq, bigSep_option (fun k : CellIx => (semVal (kcell (c, k)) 0 : sProp 𝕄))]

/-- Device `c`'s semaphores and round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ ((bigSep Finset.univ fun k : CellIx => atPos ER (kcell (c, k)) 0 ∅ 0) ∗ bigSep Finset.univ fun k : CellIx => reached ER (kcell (c, k)) 0) ∗ toks c) := by
  have hinv : iprop((bigSep Finset.univ fun k : CellIx => semVal (kcell (c, k)) 0) ∗ bigSep Finset.univ fun k : CellIx => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hv := (Entails.of_eq (sems_eq (F := F) c)) $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

omit [FloatOps F] in
/-- A persistent fact is every device's. -/
theorem share_all {A : Type} [Fintype A] [DecidableEq A] {R : sProp 𝕄} [BI.Persistent R] {Φ Ψ : A → sProp 𝕄} (h : ∀ a, iprop(R ∗ Φ a) ⊢ Ψ a) :
    iprop(R ∗ bigSep Finset.univ Φ) ⊢ bigSep Finset.univ Ψ :=
  (sep_mono_left (BI.bigSep_of_persistent Finset.univ R)).trans (by rw [← bigSep_sep']; exact bigSep_mono fun a _ => h a)

/-- The invariants of all cells are collected, and each device gets them all. -/
theorem regroup :
    (bigSep Finset.univ fun c : Dev nD => iprop((bigSep Finset.univ fun k => iprop(∃ κ : ℕ, cellInv ER (sched m) κ (kcell (c, k))))
          ∗ ((bigSep Finset.univ fun k : CellIx => atPos ER (kcell (c, k)) 0 ∅ 0) ∗ bigSep Finset.univ fun k : CellIx => reached ER (kcell (c, k)) 0) ∗ toks c) : sProp 𝕄)
      ⊢ bigSep Finset.univ (G' m) := by
  rw [bigSep_sep', bigSep_sep', bigSep_sep', ← bigSep_univ_prod (fun ck : Dev nD × CellIx => iprop(∃ κ : ℕ, cellInv ER (sched m) κ (kcell ck))),
    ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched m) κ (kcell ck) : sProp 𝕄))) $$ HI
  icases HK with ⟨%K, #HI⟩
  iapply (share_all (R := records m K) (Φ := fun c : Dev nD => iprop((bigSep Finset.univ fun k : CellIx => atPos ER (kcell (c, k)) 0 ∅ 0) ∗ toks c))
    fun c => show _ ⊢ G' m c from by
      unfold G' ghost
      iintro H
      iexists K; iexact H)
  isplitr
  · unfold records
    isplitl; · iexact HI
    iexact HR
  · rw [bigSep_sep']
    isplitl [Hat] <;> iassumption

/-- All devices' semaphores and shares of the launch element become what their bodies take. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.RowProduct

end
-- ==== Proof.Launch.lean ====
/-
The launch: what a device's body is handed from the launch's buffers, credits and ghost state, and the run of the
four devices.
-/
module

public import proofs.«01_k».proof.Proof.Ghost
public import proofs.«01_k».proof.Proof.Gen.KernelIdeal.Points
public import Idealize.ShloMosaic.Lib.Ring

@[expose] public section

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The receive buffer and its slots -/

/-- The elements of row `j` of the receive buffer. -/
def slotSet (j : Dev nD) : Finset S4x1x1024.Idx := (Rect.unit (s := S4x1x1024) ![j.val, 0, 0] S1x1x1024.size (slot_inb j)).set

theorem slot_set (j : Dev nD) : (slot j).view.set = slotSet j := (View.set_reshape _ _).trans (View.set_slice_whole _ _)

theorem mem_slotSet {j : Dev nD} {i : S4x1x1024.Idx} (h : i ∈ slotSet j) : (i 0).val = j.val := by
  have h0 := (Rect.mem_set_unit.mp h) 0
  have h1 : j.val ≤ (i 0).val ∧ (i 0).val < j.val + 1 := h0
  omega

theorem slotSet_disjoint (j j' : Dev nD) (h : j ≠ j') : Disjoint (slotSet j) (slotSet j') :=
  Finset.disjoint_left.mpr fun i hi hi' => h (Fin.ext ((mem_slotSet hi).symm.trans (mem_slotSet hi')))

/-- The receive buffer of device `c`, and its rows. -/
abbrev rLoc (c : Dev nD) : Loc nD τ sig := (c : Thread nD τ).loc cc0_scratch2
def slotIx (c j : Dev nD) : Finset (Idx (rLoc c)) := slotSet j

theorem slotIx_disjoint (c j j' : Dev nD) (h : j ≠ j') : Disjoint (slotIx c j) (slotIx c j') := slotSet_disjoint j j' h

theorem slotIx_cover (c : Dev nD) : Finset.univ.biUnion (slotIx c) = Finset.univ := by
  refine Finset.eq_univ_iff_forall.mpr fun (i : S4x1x1024.Idx) => Finset.mem_biUnion.mpr ⟨(i 0 : Fin 4), Finset.mem_univ _, ?_⟩
  show i ∈ slotSet _
  refine Rect.mem_set_unit.mpr fun a => ?_
  have h1 : (i 1).val < 1 := (i 1).isLt
  have h2 : (i 2).val < 1024 := (i 2).isLt
  fin_cases a
  · exact ⟨le_rfl, Nat.lt_succ_self _⟩
  · exact ⟨Nat.zero_le _, (show (i 1).val < 0 + 1 by omega)⟩
  · exact ⟨Nat.zero_le _, (show (i 2).val < 0 + 1024 by omega)⟩

omit [FloatOps F] in
theorem slotAny_eq (c j : Dev nD) : slotAny (F := F) c j ⊣⊢ (iprop(∃ f, (rLoc c) ↦[slotIx c j]{fullShare} f) : sProp 𝕄) := by
  unfold slotAny owns slotIx
  rw [slot_set]
  refine ⟨?_, ?_⟩
  · iintro ⟨%X, %f, -, H⟩
    iexists f; iexact H
  · iintro ⟨%f, H⟩
    iexists _, f
    isplitr; · ipureintro; rfl
    iexact H

omit [FloatOps F] in
/-- The receive buffer at anything is its four slots at anything; -/
theorem slots_split (c : Dev nD) (f : Buf (Elt F) (rLoc c)) :
    ((rLoc c) ↦{fullShare} f : sProp 𝕄) ⊢ bigSep Finset.univ fun j => slotAny (F := F) c j := by
  have h (j : Dev nD) : ((rLoc c) ↦[slotIx c j]{fullShare} f : sProp 𝕄) ⊢ slotAny (F := F) c j := by
    refine BIBase.Entails.trans ?_ (slotAny_eq c j).2
    iintro H; iexists f; iexact H
  rw [Ring.pointsTo_blocks (slotIx c) (slotIx_disjoint c) (slotIx_cover c) f]
  exact bigSep_mono fun j _ => h j

omit [FloatOps F] in
/-- and back. -/
theorem slots_join (c : Dev nD) (f₀ : Buf (Elt F) (rLoc c)) :
    (bigSep Finset.univ fun j => slotAny (F := F) c j) ⊢ (iprop(∃ f, (rLoc c) ↦{fullShare} f) : sProp 𝕄) :=
  (bigSep_mono fun j _ => (slotAny_eq (F := F) c j).1).trans
    (Ring.pointsTo_blocks_join_exists (slotIx c) (slotIx_disjoint c) (slotIx_cover c) f₀)

/-! ## The credits at launch -/

/-- Nothing, or one tally, at a cell. -/
theorem tally_at (p : Prop) [Decidable p] (ck ck' : Dev nD × CellIx) (n : ℕ) :
    (if p then 0 else tallyAt (kcell ck) () n : CellTallies nD τ sig Unit) (kcell ck') () = if ¬ p ∧ ck' = ck then n else 0 := by
  by_cases h : p
  · rw [if_pos h, if_neg fun h' => h'.1 h]; rfl
  · rw [if_neg h, tallyAt_apply]
    exact if_congr ⟨fun h' => ⟨h, kcell_injective h'.1⟩, fun h' => ⟨congrArg kcell h'.2, rfl⟩⟩ rfl rfl

theorem dev_cases (d : Dev nD) : d = 0 ∨ d = 1 ∨ d = 2 ∨ d = 3 := by revert d; decide

/-- Device `d` owes every other device's barrier one unit, -/
theorem owed_bar (d c : Dev nD) : owed d acts (barCell c) () = if d = c then 0 else 1 := by
  have hl (j : Dev nD) : owedFor d (.inl j) (barCell c) () = if ¬ j = d ∧ (c, iBar) = (j, iBar) then 1 else 0 := by
    rw [owedFor_inl]; exact tally_at _ _ _ _
  have hr (j : Dev nD) : owedFor d (.inr j) (barCell c) () = 0 := by
    rw [owedFor_inr]; exact (tally_at _ _ _ _).trans (if_neg fun h => by simpa using h.2)
  rw [owed_apply, acts]
  simp only [List.map_cons, List.map_nil, hl, hr]
  clear hl hr
  revert d c; decide

/-- and every other device's receive cell for it one transfer. -/
theorem owed_recv (d c j : Dev nD) : owed d acts (recvCell c j) () = if d = j ∧ j ≠ c then N else 0 := by
  have hl (i : Dev nD) : owedFor d (.inl i) (recvCell c j) () = 0 := by
    rw [owedFor_inl]; exact (tally_at _ _ _ _).trans (if_neg fun h => by simpa using h.2)
  have hr (i : Dev nD) : owedFor d (.inr i) (recvCell c j) () = if ¬ i = d ∧ (c, iRecv j) = (i, iRecv d) then N else 0 := by
    rw [owedFor_inr]; exact tally_at _ _ _ _
  have hn (n : ℕ) : ([0, 0, 0, 0, if ¬ 0 = d ∧ (c, iRecv j) = (0, iRecv d) then n else 0, if ¬ 1 = d ∧ (c, iRecv j) = (1, iRecv d) then n else 0,
      if ¬ 2 = d ∧ (c, iRecv j) = (2, iRecv d) then n else 0, if ¬ 3 = d ∧ (c, iRecv j) = (3, iRecv d) then n else 0] : List ℕ).sum
      = if d = j ∧ j ≠ c then n else 0 := by
    clear hl hr
    rcases dev_cases d with rfl | rfl | rfl | rfl <;> rcases dev_cases c with rfl | rfl | rfl | rfl <;>
      rcases dev_cases j with rfl | rfl | rfl | rfl <;> simp
  rw [owed_apply, acts]
  simp only [List.map_cons, List.map_nil, hl, hr]
  exact hn N

theorem launch_bar (c : Dev nD) :
    tallyOn (barCell c) (launchCredit (Pipeline.owing fun d => owed d acts) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c j : Dev nD) (h : j ≠ c) :
    tallyOn (recvCell c j) (launchCredit (Pipeline.owing fun d => owed d acts) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j]
  simp only [h, ne_eq, not_false_eq_true, and_true]
  exact (Finset.sum_ite_eq' Finset.univ j fun _ => N).trans (if_pos (Finset.mem_univ _))

omit [FloatOps F] in
/-- What the devices owe at launch is, at device `c`'s cells, three units of its barrier and a transfer from every other device. -/
theorem creds (c : Dev nD) :
    (Pipeline.launchCred (fun d => owed d acts) c : sProp 𝕄)
      ⊢ iprop(cred (tallyAt (barCell c) () 3) ∗ bigSep Finset.univ fun j => peer c j (cred (tallyAt (recvCell c j) () N))) := by
  unfold Pipeline.launchCred
  have hcells (Φ : SemLoc sig → sProp 𝕄) : bigSep Finset.univ Φ ⊢ bigSep Finset.univ fun k : CellIx => Φ (csem k) :=
    (bigSep_subset (Finset.subset_univ (Finset.univ.map ⟨csem, csem_injective⟩))).trans (Entails.of_eq (bigSep_map _))
  refine (hcells _).trans ?_
  rw [bigSep_cells]
  have hrecv (j : Dev nD) : (cred (tallyOn (recvCell c j) (launchCredit (Pipeline.owing fun d => owed d acts) 0 (recvCell c j))) : sProp 𝕄)
      ⊢ peer c j (cred (tallyAt (recvCell c j) () N)) := by
    by_cases h : j = c
    · rw [peer_eq h]; iintro -; iempintro
    · rw [peer_ne h, launch_recv c j h]
  iintro ⟨Hb, -, -, Hr⟩
  isplitl [Hb]
  · iapply (Entails.of_eq (congrArg cred (launch_bar c))); iexact Hb
  · iapply (show (bigSep Finset.univ fun j : Dev nD => (cred (tallyOn (recvCell c j) (launchCredit (Pipeline.owing fun d => owed d acts) 0 (recvCell c j))) : sProp 𝕄))
      ⊢ bigSep Finset.univ fun j => peer c j (cred (tallyAt (recvCell c j) () N)) from bigSep_mono fun j _ => hrecv j)
    iexact Hr

end Cert.RowProduct

end
-- ==== Proof.Run.lean ====
/-
The run of the four devices, for any float values: it ends, with every device's result at `outAt`, its block of `x`
unchanged, and every semaphore at zero.
-/
module

public import proofs.«01_k».proof.Proof.Launch
public import Idealize.ShloMosaic.Lib.Pipeline.CollectiveSegs
public import Idealize.ShloMosaic.Lib.Pipeline.Value

@[expose] public section

noncomputable section

namespace Cert.RowProduct

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## What a device holds around its body -/

/-- What device `c` takes from the launch: its ghost state, its credits, the levels, and its block of `x`. -/
def start (c : Dev nD) : sProp 𝕄 :=
  iprop(G' m c ∗ cred (tallyAt (barCell c) () 3) ∗ (bigSep Finset.univ fun j => peer c j (cred (tallyAt (recvCell c j) () N))) ∗ levAts L lv
    ∗ owns (c : Thread nD τ) xM fullShare (xblk m c))

/-- The scratch buffers at anything. -/
def scratch (c : Dev nD) : sProp 𝕄 :=
  iprop((∃ X, owns (c : Thread nD τ) pM fullShare X) ∗ (bigSep Finset.univ fun j => slotAny (F := F) c j) ∗ ∃ X, owns (c : Thread nD τ) cM fullShare X)

def Φ₀ (c : Dev nD) : sProp 𝕄 := iprop(start m c ∗ scratch (F := F) c)
def Φ₁ (c : Dev nD) : sProp 𝕄 :=
  iprop((semVal (barCell c) 0 ∗ owns (c : Thread nD τ) xM fullShare (xblk m c))
    ∗ (semVal (copyCell c) 0 ∗ bigSep Finset.univ fun j => iprop(semVal (recvCell c j) 0 ∗ semVal (sendCell c j) 0)) ∗ scratch (F := F) c)

/-- The one window of the kernel is its result; the body leaves it at `outAt`. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => owed c acts
    | ⟨_ + 1, _⟩ => 0

/-! ## The body's obligation -/

omit [FloatOps F] in
theorem duties_eq (c : Dev nD) : (bigSep Finset.univ fun j => duties (F := F) c j)
    = iprop((bigSep Finset.univ fun j => dutyTok ER (barCell j) 0 c) ∗ (bigSep Finset.univ fun j => dutyTok ER (sendCell c j) 0 0)
      ∗ (bigSep Finset.univ fun j => dutyTok ER (recvCell j c) 0 0) ∗ (bigSep Finset.univ fun j => atPos ER (recvCell c j) 0 ∅ 0)
      ∗ (bigSep Finset.univ fun j => atPos ER (sendCell c j) 0 ∅ 0) ∗ bigSep Finset.univ fun j => peer c j (cred (tallyAt (recvCell c j) () N))) := by
  unfold duties; simp only [bigSep_sep']

set_option maxRecDepth 4000 in
/-- The body meets what the launch asks of it. -/
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc ∗ ∃ d, owns (c : Thread nD τ) oM fullShare ((dats m 0 c).before (0 : Fin 1) t0_0 d))
    ⊢ wp frame (wpE (defs₀ (F := F)) 𝒱₀ c none) Set.univ
      (cc0_body (Memref.whole main_arg0) (Memref.isWhole_whole _) (Memref.whole cc0_stg0_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5)
      fun _ => iprop(Φ₁ m c ∗ (dats m 0 c).owesAt () t0_0.succ ∗ owns (c : Thread nD τ) oM fullShare (outAt m c))
  unfold Φ₀ start G' ghost toks scratch Dat.owesAt Pipeline.owesWithin
  iintro ⟨⟨⟨⟨%K, HR, Hat, Htc, Htb, Hts, Htr⟩, HcB, HcR, Hlev, Hx⟩, Hp, Hs, Hc⟩, ⟨%W, -, HO⟩, ⟨%d, Ho⟩⟩
  iapply (sound_body m K c W _)
  ihave Hat := (Entails.of_eq (bigSep_cells fun k => atPos ER (kcell (c, k)) 0 ∅ 0)) $$ Hat
  unfold bodyPre
  rw [duties_eq]
  icases Hat with ⟨HaB, HaC, HaS, HaR⟩
  isplitr []
  · isplitl [HR]; · iexact HR
    isplitl [Hlev]; · iexact Hlev
    isplitl [HO]; · iexact HO
    isplitl [Htc]; · iexact Htc
    isplitl [HaC]; · iexact HaC
    isplitl [HaB]; · iexact HaB
    isplitl [HcB]; · iexact HcB
    isplitl [Htb Hts Htr HaR HaS HcR]
    · isplitl [Htb]; · iexact Htb
      isplitl [Hts]; · iexact Hts
      isplitl [Htr]; · iexact Htr
      isplitl [HaR]; · iexact HaR
      isplitl [HaS] <;> iassumption
    isplitl [Hs]; · iexact Hs
    isplitl [Hx]; · iexact Hx
    isplitl [Ho]; · iexists _; iexact Ho
    isplitl [Hp] <;> iassumption
  · unfold bodyPost Φ₁ scratch
    iintro ⟨⟨%W', HO⟩, HzB, HzC, Hz, Hs, Hx, Ho, Hp, Hc⟩
    isplitr [HO Ho]
    · isplitl [HzB Hx]
      · isplitl [HzB] <;> iassumption
      isplitl [HzC Hz]
      · isplitl [HzC] <;> iassumption
      isplitl [Hp]; · iexact Hp
      isplitl [Hs] <;> iassumption
    isplitl [HO]
    · iexists W'
      isplitr; · ipureintro; exact fun _ _ => Or.inl trivial
      iexact HO
    iexact Ho

/-! ## The launch's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d acts) c ∗ prngReg c (ρ c) ∗ G' m c)
      ⊢ |={Set.univ}=> iprop(start m c ∗ emp) := by
  rw [Pipeline.unscopedRestP_none]
  iintro ⟨Hx, Hlev, Hcr, -, HG⟩
  ihave Hx := (Entails.of_eq (unscopedRest0_eq (Val := Elt F) c fun b => m ((c : Thread nD τ).loc b))) $$ Hx
  ihave Hx := (owns_whole (F := F) c main_arg0 fullShare (m ((c : Thread nD τ).loc main_arg0))).2 $$ Hx
  ihave Hc := (creds (F := F) c) $$ Hcr
  icases Hc with ⟨HB, HR⟩
  imodintro
  unfold start xblk
  isplitl
  · isplitl [HG]; · iexact HG
    isplitl [HB]; · iexact HB
    isplitl [HR]; · iexact HR
    isplitl [Hlev] <;> iassumption
  · iempintro

/-- The scratch buffers of the launch are the body's. -/
theorem scratch_eq (c : Dev nD) :
    (Pipeline.scopedRest (Ix := Unit) (Name := ℕ) (U := UU) (Lvl := ℕ) (Val := Elt F) cfg0.spec c : sProp 𝕄) ⊣⊢ scratch (F := F) c := by
  rw [scopedRest0_eq]
  unfold scratch
  refine ⟨?_, ?_⟩
  · iintro ⟨⟨%f, Hp⟩, ⟨%g, Hc⟩, ⟨%h, Hr⟩⟩
    isplitl [Hp]; · iexists f; iapply (owns_whole (F := F) c cc0_scratch0 fullShare f).2; iexact Hp
    isplitl [Hr]; · iapply (slots_split (F := F) c h); iexact Hr
    iexists g; iapply (owns_whole (F := F) c cc0_scratch1 fullShare g).2; iexact Hc
  · iintro ⟨⟨%f, Hp⟩, Hr, ⟨%g, Hc⟩⟩
    isplitl [Hp]; · iexists f; iapply (owns_whole (F := F) c cc0_scratch0 fullShare f).1; iexact Hp
    isplitl [Hc]; · iexists g; iapply (owns_whole (F := F) c cc0_scratch1 fullShare g).1; iexact Hc
    iapply (slots_join (F := F) c (rM.view.junk)); iexact Hr

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_eq (F := F) c).1; iexact Hr

theorem phi1_exit (c : Dev nD) :
    (dats m 0 c).Φ (Fin.last cfg0.N)
      ⊢ iprop((unscopedSems0 c ∗ owns (c : Thread nD τ) xM fullShare (xblk m c)) ∗ Pipeline.ownSems0 osem c ∗ Pipeline.scopedRest cfg0.spec c) := by
  rw [show (dats m 0 c).Φ (Fin.last cfg0.N) = Φ₁ m c from rfl, ownSems0_eq, unscopedSems0_eq, bigSep_own]
  unfold Φ₁
  rw [bigSep_sep']
  iintro ⟨Hu, ⟨HzC, HzR, HzS⟩, Hr⟩
  isplitl [Hu]; · iexact Hu
  isplitl [HzC HzR HzS]
  · isplitl [HzC]; · iexact HzC
    isplitl [HzS] <;> iassumption
  iapply (scratch_eq (F := F) c).2; iexact Hr

theorem lv_stage : ∀ (c : Dev nD) (w : Fin cfg0.W) (s : Fin (cfg0.win w).nbuf), lv ((c : Thread nD τ), .dma ((cfg0.win w).sem s)) () = 0 := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (lv_stage c w s) acts
    · exact mayWait_low c _ (lv_stage c w s) []

/-! ## The run -/

/-- What the run leaves: every device's result and its block of `x`. -/
def Leaves (r : PUnit × MemSt nD τ sig (Elt F)) : Prop := ∀ c : Dev nD,
  r.2.mem ((c : Thread nD τ).loc main_v1) = outAt m c ∧ r.2.mem ((c : Thread nD τ).loc main_arg0) = m ((c : Thread nD τ).loc main_arg0)

/-- The result's array after the kernel holds what the body left in the window. -/
theorem result_eq (c : Dev nD) : (dats m 0 c).arrAt 0 cfg0.N = outAt m c := by
  have hw : ((cfg0.win 0).blk t0_0).view.read (Elt F) ((dats m 0 c).arrAt 0 cfg0.N) = (dats m 0 c).flushed 0 t0_0 := by
    rw [show cfg0.N = t0_0.val + 1 from rfl, (dats m 0 c).arrAt_succ (0 : Fin 1) t0_0, flush0_0, if_pos rfl]
    exact View.read_write_univ _ _
  have hr (f : Buf (Elt F) ((c : Thread nD τ).loc main_v1)) : (win0_0.blk t0_0).view.read (Elt F) f = f :=
    Memref.read_access_unit_zero (Elt F) main_v1
      (show (fun a => (win0_0.index t0_0) a * main_v1.ty.shape.size a) = fun _ => 0 from funext fun a => by fin_cases a <;> decide)
      (fun a => by fin_cases a <;> decide) f
  exact (hr _).symm.trans hw

/-- What is held at the end, read in the memory. -/
theorem read_end (c : Dev nD) (s' : Phys nD τ sig (Elt F)) :
    iprop((unscopedSems0 c ∗ owns (c : Thread nD τ) xM fullShare (xblk m c)) ∗ emp ∗ SI s')
      ⊢ (|={Set.univ}=> iprop(⌜s'.mem.mem ((c : Thread nD τ).loc main_arg0) = m ((c : Thread nD τ).loc main_arg0)
        ∧ ∀ sm : SemLoc sig, sm.isScoped .tc = false → s'.mem.sem ((c.tc : Thread nD τ), sm) = 0⌝ ∗ SI s') : sProp 𝕄) := by
  iintro ⟨⟨Hu, Hx⟩, -, HSI⟩
  ihave Hx := (owns_whole (F := F) c main_arg0 fullShare (xblk m c)).1 $$ Hx
  icombine HSI Hx gives %h
  imod (Pipeline.unscopedSems0_read (X := unscopedSems0 c) (c := c) fupd_intro s') $$ [Hu HSI] with ⟨%hs, HSI⟩
  · isplitl [Hu] <;> iassumption
  imodintro
  isplitr
  · ipureintro; exact ⟨Buf.eq_of_forall_mem_univ h, hs⟩
  iexact HSI

set_option maxRecDepth 8000 in
/-- From any memory with zero counters, every weakly fair execution of the four devices ends, with every result at
    `outAt`, `x` unchanged, and every semaphore counter at zero. -/
theorem run_main : θ_run defs (onTc (τ := τ) (main (F := F))) ⟨m, fun _ => 0, ρ⟩ (fun r => Leaves m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := fun d => owed d acts) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ owns (c : Thread nD τ) xM fullShare (xblk m c))) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := read_end m)
    (hQ := fun _ h hs => ⟨fun c => ⟨((h c).1 0).trans (result_eq m c), (h c).2.2.1⟩, sem_eq_zero hs fun c => (h c).2.2.2⟩)

end Cert.RowProduct

end
-- ==== Proof.Ref.lean ====
/-
The reference's run.

The reference is a straight line, then one counted loop of 16384 trips, one per row of `x`. Before trip `k` the
loop holds `x`, the trip's number, the product of the rows so far, and the result with its first `k` rows
written. This module lists the operations of each part, proves what one trip does to the buffers, and runs the
program: every buffer ends at the contents that the trips leave, one after another.
-/
module

public import proofs.«01_k».proof.Proof.Gen.ReferenceIdeal
public import Idealize.ShloMosaic.Lib.StableHlo.RunLoop
public import Idealize.ShloMosaic.Lib.Pipeline.Value
public import Idealize.ShloMosaic.Lib.Pipeline.Kit
public import Idealize.ShloMosaic.Lib.DynamicIndex
public import Idealize.ShloMosaic.Lib.Scf.ExitTest
public import Idealize.ShloMosaic.Lib.Scf.Counter
public import Idealize.ShloMosaic.Lib.Quiescent

@[expose] public section

noncomputable section

namespace Cert.RowProduct.Ref

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations -/

/-- What runs before the loop: the constants, and the loop's first values. -/
abbrev enterOps : List (HloOp τ sig (Elt F)) :=
  [ StableHlo.nullary main_cst (constant S_ .f32 0x3F800000#32),
    StableHlo.unary main_cst main_v0 (broadcastInDim S1024 ![] bcast_S_S1024),
    StableHlo.nullary main_cst_0 (constant S_ .f32 0x00000000#32),
    StableHlo.unary main_cst_0 main_v1 (broadcastInDim S16384x1024 ![] bcast_S_S16384x1024),
    StableHlo.nullary main_c (constantI S_ 32 0#32),
    StableHlo.unary main_arg0 main_v2_0 id,
    StableHlo.unary main_c main_v2_1 id,
    StableHlo.unary main_v0 main_v2_2 id,
    StableHlo.unary main_v1 main_v2_3 id ]

/-- The loop's condition: the trip's number compared with 16384. -/
abbrev testOps : List (HloOp τ sig (Elt F)) :=
  [ StableHlo.nullary main_while0c_c_4 (constantI S_ 32 16384#32),
    StableHlo.binary main_v2_1 main_while0c_c_4 main_while0c_v3 (cmpi .slt) ]

/-- One trip: the row at the trip's number, the product with it, the product written at that row, and the number stepped. -/
abbrev tripOps : List (HloOp τ sig (Elt F)) :=
  [ StableHlo.TRef.nullary main_while0b_call0.c (constantI S_ 32 0#32),
    StableHlo.TRef.unaryIndexed (.of main_v2_0 : TRef sig ⟨S16384x1024, .f32⟩) ![(.of main_v2_1 : TRef sig ⟨S_, .i32⟩), main_while0b_call0.c] main_while0b_call0.v0
      (fun x i => Host.dynamicSlice S1x1024 x (fun k => (i k (Shape.Idx.first h_S_)).toInt) sliceFits_S16384x1024_S1x1024),
    StableHlo.TRef.reshape main_while0b_call0.v0 main_while0b_call0.v1 (rfl : (.f32 : EltTy) = .f32) shapeCasts_S1x1024_S1024,
    StableHlo.binary main_v2_2 main_while0b_v3 main_while0b_v4 mulf,
    StableHlo.TRef.unary (.of main_while0b_v4 : TRef sig ⟨S1024, .f32⟩) main_while0b_call1.v0 (broadcastInDim S1x1024 ![1] bcast_S1024_S1x1024_1),
    StableHlo.TRef.nullary main_while0b_call1.c (constantI S_ 32 0#32),
    StableHlo.TRef.binaryIndexed (.of main_v2_3 : TRef sig ⟨S16384x1024, .f32⟩) main_while0b_call1.v0 ![(.of main_v2_1 : TRef sig ⟨S_, .i32⟩), main_while0b_call1.c] main_while0b_call1.v1
      (fun x u i => Host.dynamicUpdateSlice x u (fun k => (i k (Shape.Idx.first h_S_)).toInt) updateFits_S16384x1024_S1x1024),
    StableHlo.nullary main_while0b_c_4 (constantI S_ 32 1#32),
    StableHlo.binary main_v2_1 main_while0b_c_4 main_while0b_v6 addi,
    StableHlo.unary main_while0b_v6 main_v2_1 id,
    StableHlo.unary main_while0b_v4 main_v2_2 id,
    StableHlo.unary main_while0b_v5 main_v2_3 id ]

/-- Every operation before the loop touches the core's own buffers. -/
theorem enterOps_sub : (enterOps : List (HloOp τ sig (Elt F))).Forall fun op => op.bufs ⊆ tcRefs τ sig := by
  exact ⟨nullary_bufs_sub .., unary_bufs_sub .., nullary_bufs_sub .., unary_bufs_sub .., nullary_bufs_sub .., unary_bufs_sub .., unary_bufs_sub ..,
    unary_bufs_sub .., unary_bufs_sub ..⟩

/-- Every operation of a trip touches the core's own buffers. -/
theorem tripOps_sub : (tripOps : List (HloOp τ sig (Elt F))).Forall fun op => op.bufs ⊆ tcRefs τ sig := by
  exact ⟨nullary_bufs_sub .., unaryIndexed_bufs_sub .., reshape_bufs_sub .., binary_bufs_sub .., unary_bufs_sub .., nullary_bufs_sub .., binaryIndexed_bufs_sub ..,
    nullary_bufs_sub .., binary_bufs_sub .., unary_bufs_sub .., unary_bufs_sub .., unary_bufs_sub ..⟩

/-- A trip's body is its operations in order. -/
theorem body_ops : main_while0_body (F := F) = Pipeline.chain ([tripOps].map fun ops => (seq ops : Prog _ PUnit)) := by
  rfl

/-- The program is the operations before the loop, then the loop. -/
theorem main_ops (c : Dev nD) :
    main (F := F) c = Pipeline.chain (([enterOps].map fun ops => (seq ops : Prog _ PUnit)) ++ HostLoop.enter 0 :: [].map fun ops => (seq ops : Prog _ PUnit)) := by
  rfl

/-! ## One trip as a function of the contents -/

/-- The index of row `k` (the last row for a larger `k`) at the column of `j`. -/
def rowIx (k : ℕ) (j : S1024.Idx) : S16384x1024.Idx :=
  fun a => match a with
    | ⟨0, _⟩ => ⟨min k 16383, show min k 16383 < 16384 by omega⟩
    | ⟨1, _⟩ => ⟨(j 0).val, (j 0).isLt⟩

/-- The column of an index of the array. -/
def colIx (i : S16384x1024.Idx) : S1024.Idx := fun a => match a with | ⟨0, _⟩ => ⟨(i 1).val, (i 1).isLt⟩

/-- Row `k` of the array. -/
def rowAt (X : Vec F S16384x1024 .f32) (k : ℕ) : Vec F S1024 .f32 := fun j => X (rowIx k j)

/-- The slice that trip `k` takes is row `k`. -/
theorem slice_row (X : Vec F S16384x1024 .f32) (k : ℕ) (hk : k < 16384) (st : Fin 2 → ℤ) (h0 : st 0 = k) (h1 : st 1 = 0) :
    shapeCast S1024 (Host.dynamicSlice S1x1024 X st sliceFits_S16384x1024_S1x1024) shapeCasts_S1x1024_S1024 = rowAt X k := by
  have hoff : S16384x1024.Slices ![k, 0] S1x1024 := ⟨rfl, fun a => by
    match a with
    | ⟨0, _⟩ => show k + 1 ≤ 16384; omega
    | ⟨1, _⟩ => show 0 + 1024 ≤ 1024; omega⟩
  rw [Host.dynamicSlice_eq_extractStridedSlice S1x1024 X st ![k, 0] _ hoff (fun a => by
    match a with
    | ⟨0, _⟩ => exact h0
    | ⟨1, _⟩ => exact h1)]
  funext j
  rw [shapeCast_apply _ _ j (fun a => match a with | ⟨0, _⟩ => ⟨0, Nat.one_pos⟩ | ⟨1, _⟩ => ⟨(j 0).val, (j 0).isLt⟩)
    (by rw [Shape.rowMajor_val_two, Shape.rowMajor_val_one]; show 0 * 1024 + (j 0).val = (j 0).val; omega)]
  unfold extractStridedSlice rowAt
  refine congrArg X (funext fun a => Fin.ext ?_)
  match a with
  | ⟨0, _⟩ => show k + 0 = min k 16383; omega
  | ⟨1, _⟩ => show 0 + (j 0).val = (j 0).val; omega

/-- The array after trip `k` writes the row `u`: row `k` is `u`, the others stay. -/
theorem update_row (X : Vec F S16384x1024 .f32) (u : Vec F S1024 .f32) (k : ℕ) (hk : k < 16384) (st : Fin 2 → ℤ) (h0 : st 0 = k) (h1 : st 1 = 0)
    (i : S16384x1024.Idx) :
    Host.dynamicUpdateSlice X (broadcastInDim S1x1024 ![1] bcast_S1024_S1x1024_1 u) st updateFits_S16384x1024_S1x1024 i
      = if (i 0).val = k then u (colIx i) else X i := by
  have hoff : S16384x1024.Slices ![k, 0] S1x1024 := ⟨rfl, fun a => by
    match a with
    | ⟨0, _⟩ => show k + 1 ≤ 16384; omega
    | ⟨1, _⟩ => show 0 + 1024 ≤ 1024; omega⟩
  rw [Host.dynamicUpdateSlice_eq_updateSlice X _ st _ ![k, 0] (fun a => by
    match a with
    | ⟨0, _⟩ => show (min (max (st 0) 0) ((16384 - 1 : ℕ) : ℤ)).toNat = k; rw [h0]; omega
    | ⟨1, _⟩ => show (min (max (st 1) 0) ((1024 - 1024 : ℕ) : ℤ)).toNat = 0; rw [h1]; rfl) hoff]
  unfold updateSlice
  by_cases hi : (i 0).val = k
  · rw [dif_pos (fun a => by
      match a with
      | ⟨0, _⟩ => show k ≤ (i 0).val ∧ (i 0).val < k + 1; omega
      | ⟨1, _⟩ => show 0 ≤ (i 1).val ∧ (i 1).val < 0 + 1024; exact ⟨Nat.zero_le _, by rw [Nat.zero_add]; exact (i 1).isLt⟩), if_pos hi]
    refine broadcastInDim_apply _ _ u _ (colIx i) (fun a => ?_)
    match a with
    | ⟨0, _⟩ => show (i 1).val = if (1024 : ℕ) = 1 then 0 else (i 1).val - 0; rw [if_neg (by decide)]; rfl
  · rw [dif_neg (fun h => hi (by have := h 0; change k ≤ (i 0).val ∧ (i 0).val < k + 1 at this; omega)), if_neg hi]

/-! ## One trip on the buffers -/

/-- The contents of the core's buffer `r` under `V`. -/
abbrev at_ (V : Valuation τ sig (Elt F)) (r : Ref sig .tc) : r.ty.Contents (Elt F) := V (Proc.devRef .tc r)

/-- What the loop's condition writes. -/
abbrev testWrites : List (Ref sig .tc) := [main_while0c_c_4, main_while0c_v3]

theorem testOps_writes : (testOps : List (HloOp τ sig (Elt F))).Forall fun op => op.writes ⊆ (testWrites.map (Proc.devRef (τ := τ) .tc)).toFinset :=
  forall_writes_sub_of_map rfl

/-- The condition leaves every other buffer. -/
theorem test_keeps (V : Valuation τ sig (Elt F)) {r : Ref sig .tc} (h : r ∉ testWrites) : at_ (after testOps V) r = at_ V r :=
  after_of_writes_sub testOps V testOps_writes h

/-- What a trip writes. -/
abbrev tripWrites : List (Ref sig .tc) :=
  [main_while0b_call0_c, main_while0b_call0_v0, main_while0b_v3, main_while0b_v4, main_while0b_call1_v0, main_while0b_call1_c, main_while0b_v5,
    main_while0b_c_4, main_while0b_v6, main_v2_1, main_v2_2, main_v2_3]

theorem tripOps_writes : (tripOps : List (HloOp τ sig (Elt F))).Forall fun op => op.writes ⊆ (tripWrites.map (Proc.devRef (τ := τ) .tc)).toFinset :=
  forall_writes_sub_of_map rfl

/-- A trip leaves every other buffer. -/
theorem trip_keeps (V : Valuation τ sig (Elt F)) {r : Ref sig .tc} (h : r ∉ tripWrites) : at_ (after tripOps V) r = at_ V r :=
  after_of_writes_sub tripOps V tripOps_writes h

/-- A trip steps the trip's number. -/
theorem trip_number (V : Valuation τ sig (Elt F)) : at_ (after tripOps V) main_v2_1 = addi (at_ V main_v2_1) (constantI S_ 32 1#32) := by
  unfold at_
  after_results_simp_entrywise
  rfl

/-- Where a trip's slice and update start: the trip's number, column 0. -/
abbrev startAt (V : Valuation τ sig (Elt F)) : Fin 2 → ℤ :=
  fun k => BitVec.toInt (![at_ V main_v2_1, constantI S_ 32 0#32] k (Shape.Idx.first h_S_))

/-- Trip `k` multiplies the running product by row `k`. -/
theorem trip_product (V : Valuation τ sig (Elt F)) (k : ℕ) (hk : k < 16384) (hn : startAt V 0 = k) :
    at_ (after tripOps V) main_v2_2 = mulf (at_ V main_v2_2) (rowAt (at_ V main_v2_0) k) := by
  rw [← slice_row (at_ V main_v2_0) k hk (startAt V) hn rfl]
  unfold at_
  after_results_simp_entrywise
  rfl

/-- Trip `k` writes the running product, that row included, at row `k` of the result. -/
theorem trip_result (V : Valuation τ sig (Elt F)) (k : ℕ) (hk : k < 16384) (hn : startAt V 0 = k) (i : S16384x1024.Idx) :
    at_ (after tripOps V) main_v2_3 i
      = if (i 0).val = k then mulf (at_ V main_v2_2) (rowAt (at_ V main_v2_0) k) (colIx i) else at_ V main_v2_3 i := by
  refine Eq.trans ?_ (update_row (at_ V main_v2_3) (mulf (at_ V main_v2_2) (rowAt (at_ V main_v2_0) k)) k hk (startAt V) hn rfl i)
  rw [← slice_row (at_ V main_v2_0) k hk (startAt V) hn rfl]
  unfold at_
  after_results_simp_entrywise
  rfl

/-! ## The trips -/

variable (m : (ℓ : Loc nD τ sig) → Buf (Elt F) ℓ)

/-- The argument on core `c`. -/
abbrev arg (c : Dev nD) : Vec F S16384x1024 .f32 := m ((c : Thread nD τ).loc main_arg0)

/-- The contents before trip `k`. -/
abbrev before (k : ℕ) (c : Dev nD) : Valuation τ sig (Elt F) := atTrip testOps [tripOps] (entryContents [enterOps] m) k c

/-- The product of the first `k` rows, from the left, starting at one. -/
def product (X : Vec F S16384x1024 .f32) : ℕ → Vec F S1024 .f32
  | 0 => fun _ => FloatOps.ofBits .f32 0x3F800000#32
  | k + 1 => mulf (product X k) (rowAt X k)

/-- What the loop holds before trip `k`. -/
structure Holds (V : Valuation τ sig (Elt F)) (X : Vec F S16384x1024 .f32) (k : ℕ) : Prop where
  array : at_ V main_v2_0 = X
  number : at_ V main_v2_1 = fun _ => Scf.iv 0#32 1#32 k
  running : at_ V main_v2_2 = product X k
  rows : ∀ i : S16384x1024.Idx, (i 0).val < k → at_ V main_v2_3 i = product X ((i 0).val + 1) (colIx i)
  argument : at_ V main_arg0 = X

/-- The loop's first values. -/
theorem holds_enter (c : Dev nD) : Holds (before m 0 c) (arg m c) 0 where
  array := by
    show at_ (after enterOps (launchContents m c)) _ = _
    unfold at_; after_results_simp_entrywise; rfl
  number := by
    show at_ (after enterOps (launchContents m c)) _ = _
    unfold at_; after_results_simp_entrywise; rw [Scf.iv_zero]; rfl
  running := by
    show at_ (after enterOps (launchContents m c)) _ = _
    unfold at_; after_results_simp_entrywise; rfl
  rows := fun i hi => absurd hi (Nat.not_lt_zero _)
  argument := by
    show at_ (after enterOps (launchContents m c)) _ = _
    unfold at_; after_results_simp_entrywise

/-- The trip's number, read as an integer. -/
theorem number_val (k : ℕ) (hk : k ≤ 16384) : (Scf.iv 0#32 1#32 k : BitVec 32).toInt = k := by
  rw [Scf.toInt_iv (lb := 0#32) (ub := 16384#32) (st := 1#32) (by decide) hk]
  simp

/-- The condition changes nothing that the loop holds. -/
theorem Holds.test {V : Valuation τ sig (Elt F)} {X : Vec F S16384x1024 .f32} {k : ℕ} (h : Holds V X k) : Holds (after testOps V) X k where
  array := (test_keeps V (by decide)).trans h.array
  number := (test_keeps V (by decide)).trans h.number
  running := (test_keeps V (by decide)).trans h.running
  rows := fun i hi => (congrFun (test_keeps V (r := main_v2_3) (by decide)) i).trans (h.rows i hi)
  argument := (test_keeps V (by decide)).trans h.argument

/-- A trip takes what the loop holds before it to what it holds before the next. -/
theorem Holds.trip {V : Valuation τ sig (Elt F)} {X : Vec F S16384x1024 .f32} {k : ℕ} (hk : k < 16384) (h : Holds V X k) :
    Holds (after tripOps V) X (k + 1) := by
  have hn : startAt V 0 = k := by
    show (at_ V main_v2_1 (Shape.Idx.first h_S_) : BitVec 32).toInt = k
    rw [h.number]; exact number_val k (Nat.le_of_lt hk)
  refine ⟨(trip_keeps V (by decide)).trans h.array, ?_, ?_, fun i hi => ?_, (trip_keeps V (by decide)).trans h.argument⟩
  · rw [trip_number, h.number, Scf.iv_succ]; rfl
  · rw [trip_product V k hk hn, h.running, h.array]; rfl
  · rw [trip_result V k hk hn i]
    by_cases e : (i 0).val = k
    · rw [if_pos e, h.running, h.array, e]; rfl
    · rw [if_neg e]; exact h.rows i (by omega)

/-- What the loop holds before each trip. -/
theorem holds (c : Dev nD) : ∀ k ≤ 16384, Holds (before m k c) (arg m c) k
  | 0, _ => holds_enter m c
  | k + 1, hk => (holds c k (by omega)).test.trip (by omega)

/-! ## The run -/

-- the rule for an operation is stated for any thread; the unifier must unfold the TensorCore thread in a metavariable's type
set_option backward.isDefEq.respectTransparency.types false in
/-- The condition is one exactly when a trip remains. -/
theorem test_spec : CondSpec (pcfgs (F := F)) defs₀ loops (main_while0_cond (F := F)) testOps [tripOps] (entryContents [enterOps] m) 16384 := by
  intro k hk c bd
  have hnum : before m k c (Proc.devRef .tc main_v2_1) = fun _ => Scf.iv 0#32 1#32 k := (holds m c k hk).number
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (before m k c) main_v2_1 HostLoop.idx0)
        (HloOp.result _ (before m k c) main_while0c_c_4 HostLoop.idx0) = 1#1) (k < 16384)
    rw [nullary_result_ne _ _ _ _ (by decide), nullary_result, hnum]
    exact Scf.cmpi_slt_iv_ub_iff (lb := 0#32) (ub := 16384#32) (st := 1#32) (by decide) hk
  isplitl [Hb]; · iexact Hb
  rw [after_cons, after_cons, after_nil]; iexact Hh

/-- What the reference leaves: every row of the result is the product of the rows down to it; the argument is unchanged. -/
def Leaves (r : PUnit × MemSt nD τ sig (Elt F)) : Prop :=
  ∀ c : Dev nD, r.2.mem ((c : Thread nD τ).loc main_v2_3) = (fun i => product (arg m c) ((i 0).val + 1) (colIx i))
    ∧ r.2.mem ((c : Thread nD τ).loc main_arg0) = m ((c : Thread nD τ).loc main_arg0)

/-- Every execution of the reference ends, without a fault, leaving that. -/
theorem run_main (ρ : Dev nD → PrngReg) :
    θ_run (defs (F := F)) (onTc (τ := τ) (main (F := F))) ⟨m, fun _ => 0, ρ⟩ (Leaves m) := by
  refine (θ_run (defs (F := F)) _ _).mono (fun r h c => ?_)
    (run_loop (pcfgs (F := F)) defs₀ loops main 0 main_while0_cond main_while0_body rfl [enterOps] [tripOps] [] testOps
      (.cons enterOps_sub .nil) (.cons tripOps_sub .nil) .nil main_ops body_ops 16384 m ρ (test_spec m))
  have hend := (holds m c 16384 (Nat.le_refl _)).test
  exact ⟨(h c main_v2_3 rfl).trans (funext fun i => hend.rows i (i 0).isLt), (h c main_arg0 rfl).trans hend.argument⟩

end Cert.RowProduct.Ref

end
-- ==== Proof.Value.lean ====
/-
The equation between the kernel's block and the reference's rows, over the extended reals.

Fix a column and let `g n` be the entry of the whole array in row `n`. After `k` doubling steps a row of device
`c`'s block holds the product of `g` over the `2 ^ k` rows that end there (over all rows of the block down to
it, if there are fewer). So twelve steps give the product over the block's rows down to a row, and the totals
of a block are the product over all its rows. The product of the totals of the blocks before, times the first,
is the product of `g` over every row of the whole array down to that row: what the reference holds there.
-/
module

public import proofs.«01_k».proof.Proof.Result
public import proofs.«01_k».proof.Proof.Ref
public import Idealize.ShloMosaic.Lib.IdealHost
public import Idealize.ShloMosaic.Lib.Layout

@[expose] public section

set_option maxRecDepth 16384

noncomputable section

namespace Cert.RowProduct

open Cert.KernelIdeal Cert.KernelIdeal.Gen

open Idealize.ShloMosaic
open Idealize.ShloMosaic.TcCoe
open Finset (range Ico)

/-! ## Products over rows -/

/-- Two neighbouring stretches of rows: the one of length `s` that ends at row `r`, and the one that ends `s` rows above. -/
theorem join_stretches (g : ℕ → EReal) (r s : ℕ) (h : s ≤ r) :
    (∏ n ∈ Ico (r + 1 - s) (r + 1), g n) * ∏ n ∈ Ico (r - s + 1 - s) (r - s + 1), g n = ∏ n ∈ Ico (r + 1 - (s + s)) (r + 1), g n := by
  rw [mul_comm, show r - s + 1 = r + 1 - s by omega, show r + 1 - s - s = r + 1 - (s + s) by omega]
  exact Finset.prod_Ico_consecutive g (by omega) (by omega)

/-- The rows of the first `c` blocks, block by block. -/
theorem blocks_prod (g : ℕ → EReal) (c : ℕ) : ∏ j ∈ range c, ∏ n ∈ range 4096, g (4096 * j + n) = ∏ n ∈ range (4096 * c), g n := by
  induction c with
  | zero => rfl
  | succ c ih => rw [Finset.prod_range_succ, ih, Nat.mul_succ, Finset.prod_range_add]

/-- The kernel's product over the four devices, ones in the place of those not before `c`, is the product over the devices before `c`. -/
theorem before_prod (t : ℕ → EReal) (c : Fin 4) :
    ((((1 * if 0 < c.val then t 0 else 1) * if 1 < c.val then t 1 else 1) * if 2 < c.val then t 2 else 1) * if 3 < c.val then t 3 else 1)
      = ∏ j ∈ range c.val, t j := by
  fin_cases c <;> simp [Finset.prod_range_succ]

/-! ## The kernel's side -/

/-- After `k` steps a row holds the product over the `2 ^ k` rows that end there. -/
theorem doubled_prod (X : Vec Ideal S4096x1024 .f32) (g : ℕ → EReal) (j : Fin 1024) (hX : ∀ i : S4096x1024.Idx, i 1 = j → X i = g (i 0).val) :
    ∀ (k : ℕ) (i : S4096x1024.Idx), i 1 = j → doubled X k i = ∏ n ∈ Ico ((i 0).val + 1 - 2 ^ k) ((i 0).val + 1), g n
  | 0, i, hi => by
    rw [pow_zero, Nat.add_sub_cancel, Nat.Ico_succ_singleton, Finset.prod_singleton]
    exact hX i hi
  | k + 1, i, hi => by
    show (if (i 0).val < 2 ^ k then doubled X k i else doubled X k i * doubled X k (above (2 ^ k) i)) = _
    have hp : 2 ^ (k + 1) = 2 ^ k + 2 ^ k := by rw [pow_succ]; omega
    by_cases h : (i 0).val < 2 ^ k
    · rw [if_pos h, doubled_prod X g j hX k i hi, hp, show (i 0).val + 1 - 2 ^ k = 0 by omega, show (i 0).val + 1 - (2 ^ k + 2 ^ k) = 0 by omega]
    · rw [if_neg h, doubled_prod X g j hX k i hi, doubled_prod X g j hX k (above (2 ^ k) i) (by rw [← hi]; exact Fin.ext (Nat.sub_zero _)), hp]
      exact join_stretches g (i 0).val (2 ^ k) (by omega)

/-- Twelve steps reach the first row of the block. -/
theorem doubled_all (X : Vec Ideal S4096x1024 .f32) (g : ℕ → EReal) (j : Fin 1024) (hX : ∀ i : S4096x1024.Idx, i 1 = j → X i = g (i 0).val)
    (i : S4096x1024.Idx) (hi : i 1 = j) : doubled X 12 i = ∏ n ∈ range ((i 0).val + 1), g n := by
  have hr : (i 0).val < 4096 := (i 0).isLt
  rw [doubled_prod X g j hX 12 i hi, show (i 0).val + 1 - 2 ^ 12 = 0 by omega, Finset.range_eq_Ico]

/-- Row 2047 times row 4095 after eleven steps is the product over the block. -/
theorem halves_prod (X : Vec Ideal S4096x1024 .f32) (g : ℕ → EReal) (i : S1x1024.Idx) (hX : ∀ i' : S4096x1024.Idx, i' 1 = i 1 → X i' = g (i' 0).val) :
    doubled X 11 (atRow 2047 i) * doubled X 11 (atRow 4095 i) = ∏ n ∈ range 4096, g n := by
  rw [doubled_prod X g (i 1) hX 11 (atRow 2047 i) rfl, doubled_prod X g (i 1) hX 11 (atRow 4095 i) rfl, Finset.range_eq_Ico]
  exact Finset.prod_Ico_consecutive g (m := 0) (n := 2048) (k := 4096) (by decide) (by decide)

variable (m : (ℓ : Loc nD τ sig) → Buf (Elt Ideal) ℓ)

/-- If every block's column is its part of `g`, a device's block is the products of `g` over the rows of the whole array. -/
theorem outAt_prod (g : ℕ → EReal) (c : Dev nD) (i : S4096x1024.Idx)
    (hX : ∀ (d : Dev nD) (i' : S4096x1024.Idx), i' 1 = i 1 → xblk m d i' = g (4096 * d.val + (i' 0).val)) :
    outAt m c i = ∏ n ∈ range (4096 * c.val + ((i 0).val + 1)), g n := by
  have hf (d : Dev nD) : factor m c d (colOf i) = if d.val < c.val then ∏ n ∈ range 4096, g (4096 * d.val + n) else 1 := by
    unfold factor
    rw [show total m d (colOf i) = ∏ n ∈ range 4096, g (4096 * d.val + n) from
      halves_prod (xblk m d) (fun n => g (4096 * d.val + n)) (colOf i) (hX d)]
    exact congrArg (ite _ _) Ideal.ofBits_one_f32
  have hp : prefactor m c (colOf i) = ∏ j ∈ range c.val, ∏ n ∈ range 4096, g (4096 * j + n) := by
    unfold prefactor
    simp only [hf, Ideal.mulf_def, Ideal.ofBits_def, Ideal.ofBits_one_f32]
    exact before_prod (fun j => ∏ n ∈ range 4096, g (4096 * j + n)) c
  unfold outAt
  rw [hp, blocks_prod, doubled_all (xblk m c) (fun n => g (4096 * c.val + n)) (i 1) (hX c) i rfl, Ideal.mulf_def, mul_comm,
    Finset.prod_range_add g (4096 * c.val)]

/-! ## The reference's side -/

open Cert.ReferenceIdeal (S16384x1024)

/-- The column of the whole array that `j` names, row by row. -/
def column (X : Vec Ideal S16384x1024 .f32) (j : Cert.ReferenceIdeal.S1024.Idx) (n : ℕ) : EReal := X (Ref.rowIx n j)

/-- The reference's running product is the product over the rows so far. -/
theorem product_prod (X : Vec Ideal S16384x1024 .f32) (j : Cert.ReferenceIdeal.S1024.Idx) : ∀ k, Ref.product X k j = ∏ n ∈ range k, column X j n
  | 0 => Ideal.ofBits_one_f32
  | k + 1 => by rw [Finset.prod_range_succ, ← product_prod X j k]; rfl

/-! ## The equation -/

/-- Where an index of block `c` is in the whole array. -/
abbrev inArray (c : Fin 4) (i : S4096x1024.Idx) : S16384x1024.Idx :=
  Layout.Tiles.idx (S := ⟨2, ![4096, 1024]⟩) (T := ⟨2, ![16384, 1024]⟩) (a := 0) (k := 4) (by decide) c i

theorem inArray_row (c : Fin 4) (i : S4096x1024.Idx) : (inArray c i 0).val = c.val * 4096 + (i 0).val := rfl

/-- An entry of block `c` is the column's entry `4096 * c` rows further down. -/
theorem inArray_column (X : Vec Ideal S16384x1024 .f32) (c : Fin 4) (i i' : S4096x1024.Idx) (h : i' 1 = i 1) (d : Fin 4) :
    X (inArray d i') = column X (Ref.colIx (inArray c i)) (4096 * d.val + (i' 0).val) := by
  have hr : (i' 0).val < 4096 := (i' 0).isLt
  have hd := d.isLt
  unfold column
  refine congrArg X (funext fun a => Fin.ext ?_)
  match a with
  | ⟨0, _⟩ => show d.val * 4096 + (i' 0).val = min (4096 * d.val + (i' 0).val) 16383; omega
  | ⟨1, _⟩ => show (i' 1).val = (i 1).val; rw [h]

/-- If every device's argument is its block of `X`, every device's result is its block of the reference's. -/
theorem outAt_eq (X : Vec Ideal S16384x1024 .f32)
    (hX : ∀ d : Dev nD, m ((d : Thread nD τ).loc main_arg0) = Layout.block ⟨2, ![4096, 1024]⟩ ⟨2, ![16384, 1024]⟩ 0 4 d X) (c : Dev nD) :
    outAt m c = Layout.block ⟨2, ![4096, 1024]⟩ ⟨2, ![16384, 1024]⟩ 0 4 c (fun i => Ref.product X ((i 0).val + 1) (Ref.colIx i)) := by
  funext i
  show _ = Ref.product X ((inArray c i 0).val + 1) (Ref.colIx (inArray c i))
  rw [outAt_prod m (column X (Ref.colIx (inArray c i))) c i fun d i' h => (congrFun (hX d) i').trans (inArray_column X c i i' h d)]
  rw [product_prod, inArray_row, Nat.mul_comm, Nat.add_assoc]

end Cert.RowProduct

end
-- ==== Proof.lean ====
/-
The certificate: the five claims, put together from the run of the kernel (`Proof.Run`), the run of the
reference (`Proof.Ref`) and the equation between what the two leave (`Proof.Value`).
-/
module

public import proofs.«01_k».proof.Defs
public import proofs.«01_k».proof.Proof.Gen.Kernel
public import proofs.«01_k».proof.Proof.Run
public import proofs.«01_k».proof.Proof.Value
public import Idealize.ShloMosaic.Lib.Quiescent

@[expose] public section

noncomputable section

namespace Cert.Proof

open Idealize.ShloMosaic Idealize.SL.Sem
open Cert.RowProduct

/-- The two programs run the same body for each label. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So they run the same program for each label. -/
theorem defs_eq : Cert.Kernel.defs (F := Bits) = Cert.KernelIdeal.defs (F := Bits) :=
  congrArg (Pipeline.defs (Cert.KernelIdeal.pcfgs (F := Bits))) bodies_eq

/-- The kernel over words of bits: it ends without a fault, the argument unchanged and every counter at zero. The
    run is stated for the idealized program at any float values; the two programs are the same text. -/
theorem frame_kernel : Cert.quiescent_Kernel := by
  intro m ρ _
  rw [defs_eq]
  exact (θ_run Cert.KernelIdeal.defs _ _).mono (fun _ h => And.intro (fun c => (h.1 c).2) h.2) (run_main (F := Bits) m ρ)

/-- The idealized kernel: the same, over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference: it ends without a fault, the argument unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩) (Ref.run_main (F := Ideal) m ρ)

/-- From blocks of one array on the four devices and the array itself, the kernel leaves on each device its block of
    what the reference leaves. -/
theorem equal : Cert.algebraic_KernelIdeal_ReferenceIdeal := by
  intro m ρ m' ρ' _ hblocks
  refine ⟨fun i => Ref.product (Ref.arg m' 0) ((i 0).val + 1) (Ref.colIx i), ?_, ?_⟩
  · exact (θ_run Cert.KernelIdeal.defs _ _).mono (fun _ h c => ⟨(h.1 c).1.trans (outAt_eq m (Ref.arg m' 0) hblocks c), (h.1 c).2⟩) (run_main (F := Ideal) m ρ)
  · exact (θ_run Cert.ReferenceIdeal.defs _ _).mono (fun _ h => h 0) (Ref.run_main (F := Ideal) m' ρ')

theorem claim : Cert.Claim :=
  ⟨Cert.Kernel.Gen.facts, Cert.KernelIdeal.Gen.facts, Cert.ReferenceIdeal.Gen.facts, frame_kernel, frame_ideal, frame_reference, trivial, equal⟩

end Cert.Proof

end
